-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S1x512 : Shape := ⟨2, ![1, 512]⟩
abbrev S512x512 : Shape := ⟨2, ![512, 512]⟩
abbrev S7 : Shape := ⟨1, ![7]⟩
abbrev S16x512 : Shape := ⟨2, ![16, 512]⟩
abbrev S512 : Shape := ⟨1, ![512]⟩
abbrev S8x512 : Shape := ⟨2, ![8, 512]⟩
abbrev S64x512 : Shape := ⟨2, ![64, 512]⟩
abbrev S64x256 : Shape := ⟨2, ![64, 256]⟩
abbrev S1x256x512 : Shape := ⟨3, ![1, 256, 512]⟩
abbrev S256x512 : Shape := ⟨2, ![256, 512]⟩
abbrev S_ : Shape := ⟨0, ![]⟩
abbrev S1 : Shape := ⟨1, ![1]⟩
abbrev S512x16 : Shape := ⟨2, ![512, 16]⟩
abbrev S512x8 : Shape := ⟨2, ![512, 8]⟩

abbrev nBuf : Space → Nat
  | .hbm => 6
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S2x256x512, .bf16⟩
  | .hbm, ⟨4, _⟩ => ⟨S1x512, .i32⟩
  | .hbm, ⟨5, _⟩ => ⟨S512x512, .f32⟩
  | .local _ .vmem, ⟨0, _⟩ => ⟨S512x1, .i32⟩
  | .local _ .vmem, ⟨1, _⟩ => ⟨S1x512, .i32⟩
  | .local _ .vmem, ⟨2, _⟩ => ⟨S512x256, .bf16⟩
  | .local _ .vmem, ⟨3, _⟩ => ⟨S2x256x512, .bf16⟩
  | .local _ .vmem, ⟨4, _⟩ => ⟨S512x512, .f32⟩
  | .local _ .vmem, ⟨5, _⟩ => ⟨S512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v116 : BitVec 32 := Scalar.muli v2 c64_i32
  let v117 : Index := Scalar.indexCast v116
  let c0_27 : Index := 0#32
  ![v117.toNat, 0]
def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v122 : BitVec 32 := Scalar.addi v2 c1_i32_28
  let c8_i32_29 : BitVec 32 := 8#32
  let v123 : BitVec 32 := Scalar.remsi v122 c8_i32_29
  let c1_i32_31 : BitVec 32 := 1#32
  let v124 : BitVec 32 := Scalar.muli v123 c1_i32_31
  let v125 : BitVec 32 := Scalar.addi c0_i32_32 v124
  v125.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_33 : BitVec 32 := 2#32
  let v126 : BitVec 32 := Scalar.addi v2 c2_i32_33
  let c8_i32_34 : BitVec 32 := 8#32
  let v127 : BitVec 32 := Scalar.remsi v126 c8_i32_34
  let c1_i32_36 : BitVec 32 := 1#32
  let v128 : BitVec 32 := Scalar.muli v127 c1_i32_36
  let v129 : BitVec 32 := Scalar.addi c0_i32_37 v128
  v129.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v130 : BitVec 32 := Scalar.addi v2 c3_i32
  let c8_i32_38 : BitVec 32 := 8#32
  let v131 : BitVec 32 := Scalar.remsi v130 c8_i32_38
  let c1_i32_40 : BitVec 32 := 1#32
  let v132 : BitVec 32 := Scalar.muli v131 c1_i32_40
  let v133 : BitVec 32 := Scalar.addi c0_i32_41 v132
  v133.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v134 : BitVec 32 := Scalar.addi v2 c4_i32
  let c8_i32_42 : BitVec 32 := 8#32
  let v135 : BitVec 32 := Scalar.remsi v134 c8_i32_42
  let c1_i32_44 : BitVec 32 := 1#32
  let v136 : BitVec 32 := Scalar.muli v135 c1_i32_44
  let v137 : BitVec 32 := Scalar.addi c0_i32_45 v136
  v137.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v138 : BitVec 32 := Scalar.addi v2 c5_i32
  let c8_i32_46 : BitVec 32 := 8#32
  let v139 : BitVec 32 := Scalar.remsi v138 c8_i32_46
  let c1_i32_48 : BitVec 32 := 1#32
  let v140 : BitVec 32 := Scalar.muli v139 c1_i32_48
  let v141 : BitVec 32 := Scalar.addi c0_i32_49 v140
  v141.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v142 : BitVec 32 := Scalar.addi v2 c6_i32
  let c8_i32_50 : BitVec 32 := 8#32
  let v143 : BitVec 32 := Scalar.remsi v142 c8_i32_50
  let c1_i32_52 : BitVec 32 := 1#32
  let v144 : BitVec 32 := Scalar.muli v143 c1_i32_52
  let v145 : BitVec 32 := Scalar.addi c0_i32_53 v144
  v145.toNat
def k0_dev7 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v146 : BitVec 32 := Scalar.addi v2 c7_i32
  let c8_i32_54 : BitVec 32 := 8#32
  let v147 : BitVec 32 := Scalar.remsi v146 c8_i32_54
  let c1_i32_56 : BitVec 32 := 1#32
  let v148 : BitVec 32 := Scalar.muli v147 c1_i32_56
  let v149 : BitVec 32 := Scalar.addi c0_i32_57 v148
  v149.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_60 : BitVec 32 := 64#32
  let v151 : BitVec 32 := Scalar.muli v2 c64_i32_60
  let c0_i32_67 : BitVec 32 := 0#32
  ![v151.toNat, 0]
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v152 : BitVec 32 := Scalar.addi v2 c1_i32_61
  let c8_i32_62 : BitVec 32 := 8#32
  let v153 : BitVec 32 := Scalar.remsi v152 c8_i32_62
  let c1_i32_65 : BitVec 32 := 1#32
  let v154 : BitVec 32 := Scalar.muli v153 c1_i32_65
  let v155 : BitVec 32 := Scalar.addi c0_i32_66 v154
  v155.toNat
def k0_dev9 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_71 : BitVec 32 := 2#32
  let v164 : BitVec 32 := Scalar.addi v2 c2_i32_71
  let c8_i32_72 : BitVec 32 := 8#32
  let v165 : BitVec 32 := Scalar.remsi v164 c8_i32_72
  let c1_i32_75 : BitVec 32 := 1#32
  let v166 : BitVec 32 := Scalar.muli v165 c1_i32_75
  let v167 : BitVec 32 := Scalar.addi c0_i32_76 v166
  v167.toNat
def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_81 : BitVec 32 := 3#32
  let v176 : BitVec 32 := Scalar.addi v2 c3_i32_81
  let c8_i32_82 : BitVec 32 := 8#32
  let v177 : BitVec 32 := Scalar.remsi v176 c8_i32_82
  let c1_i32_85 : BitVec 32 := 1#32
  let v178 : BitVec 32 := Scalar.muli v177 c1_i32_85
  let v179 : BitVec 32 := Scalar.addi c0_i32_86 v178
  v179.toNat
def k0_dev11 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_91 : BitVec 32 := 4#32
  let v188 : BitVec 32 := Scalar.addi v2 c4_i32_91
  let c8_i32_92 : BitVec 32 := 8#32
  let v189 : BitVec 32 := Scalar.remsi v188 c8_i32_92
  let c1_i32_95 : BitVec 32 := 1#32
  let v190 : BitVec 32 := Scalar.muli v189 c1_i32_95
  let v191 : BitVec 32 := Scalar.addi c0_i32_96 v190
  v191.toNat
def k0_dev12 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_101 : BitVec 32 := 5#32
  let v200 : BitVec 32 := Scalar.addi v2 c5_i32_101
  let c8_i32_102 : BitVec 32 := 8#32
  let v201 : BitVec 32 := Scalar.remsi v200 c8_i32_102
  let c1_i32_105 : BitVec 32 := 1#32
  let v202 : BitVec 32 := Scalar.muli v201 c1_i32_105
  let v203 : BitVec 32 := Scalar.addi c0_i32_106 v202
  v203.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_111 : BitVec 32 := 6#32
  let v212 : BitVec 32 := Scalar.addi v2 c6_i32_111
  let c8_i32_112 : BitVec 32 := 8#32
  let v213 : BitVec 32 := Scalar.remsi v212 c8_i32_112
  let c1_i32_115 : BitVec 32 := 1#32
  let v214 : BitVec 32 := Scalar.muli v213 c1_i32_115
  let v215 : BitVec 32 := Scalar.addi c0_i32_116 v214
  v215.toNat
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_121 : BitVec 32 := 7#32
  let v224 : BitVec 32 := Scalar.addi v2 c7_i32_121
  let c8_i32_122 : BitVec 32 := 8#32
  let v225 : BitVec 32 := Scalar.remsi v224 c8_i32_122
  let c1_i32_125 : BitVec 32 := 1#32
  let v226 : BitVec 32 := Scalar.muli v225 c1_i32_125
  let v227 : BitVec 32 := Scalar.addi c0_i32_126 v226
  v227.toNat
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S16 : Shape := ⟨1, ![16]⟩
abbrev S1x16 : Shape := ⟨2, ![1, 16]⟩
abbrev S512x16 : Shape := ⟨2, ![512, 16]⟩
abbrev S512x16x512 : Shape := ⟨3, ![512, 16, 512]⟩
abbrev S512x16x1 : Shape := ⟨3, ![512, 16, 1]⟩

abbrev nBuf : Space → Nat
  | .hbm => 42
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S16x256x512, .bf16⟩
  | .hbm, ⟨4, _⟩ => ⟨S512, .i32⟩
  | .hbm, ⟨5, _⟩ => ⟨S512, .i32⟩
  | .hbm, ⟨6, _⟩ => ⟨S1x512, .i32⟩
  | .hbm, ⟨7, _⟩ => ⟨S512x1, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S16, .i32⟩
  | .hbm, ⟨24, _⟩ => ⟨S1x16, .i32⟩
  | .hbm, ⟨25, _⟩ => ⟨S512x16, .i32⟩
  | .hbm, ⟨26, _⟩ => ⟨S512x16, .i32⟩
  | .hbm, ⟨27, _⟩ => ⟨S512x16, .i1⟩
  | .hbm, ⟨28, _⟩ => ⟨S512x256, .f32⟩
  | .hbm, ⟨29, _⟩ => ⟨S16x256x512, .f32⟩
  | .hbm, ⟨30, _⟩ => ⟨S512x16x512, .f32⟩
  | .hbm, ⟨31, _⟩ => ⟨S512x1, .i1⟩
  | .hbm, ⟨32, _⟩ => ⟨S512x16, .i1⟩
  | .hbm, ⟨33, _⟩ => ⟨S512x16, .i1⟩
  | .hbm, ⟨34, _⟩ => ⟨S512x16x1, .i1⟩
  | .hbm, ⟨35, _⟩ => ⟨S_, .f32⟩
  | .hbm, ⟨36, _⟩ => ⟨S_, .f32⟩
  | .hbm, ⟨37, _⟩ => ⟨S512x16x512, .i1⟩
  | .hbm, ⟨38, _⟩ => ⟨S512x16x512, .f32⟩
  | .hbm, ⟨39, _⟩ => ⟨S512x16x512, .f32⟩
  | .hbm, ⟨40, _⟩ => ⟨S_, .f32⟩
  | .hbm, ⟨41, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Protocol.lean ====
/-
  The exchange of expert results between the eight devices: who signals whom, which semaphore a copy completes on,
  and what each signal and each copy hands over. Every statement is made once for the peer number `k : Fin 7`.
-/
module

public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal.Points
public import Idealize.ShloMosaic.Lib.Rounds
public import Idealize.ShloMosaic.Lib.Transfers
public import Idealize.ShloMosaic.Lib.Tactic
public import Idealize.ShloMosaic.Lib.Pipeline.RegionTalk

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-! ## Peers -/

/-- The device that `c` talks to in step `k`. -/
def peer (c : Dev nD) (k : Fin 7) : Dev nD := ⟨(c.val + k.val + 1) % 8, Nat.mod_lt _ (Nat.succ_pos 7)⟩
/-- The device that talks to `c` in step `k`. -/
def origin (c : Dev nD) (k : Fin 7) : Dev nD := ⟨(c.val + 7 - k.val) % 8, Nat.mod_lt _ (Nat.succ_pos 7)⟩

theorem origin_peer : ∀ (c : Dev nD) (k : Fin 7), origin (peer c k) k = c := by decide
theorem peer_origin : ∀ (c : Dev nD) (k : Fin 7), peer (origin c k) k = c := by decide
theorem origin_rev : ∀ (c : Dev nD) (k : Fin 7), origin c k.rev = peer c k := by decide
theorem peer_inj : ∀ (c : Dev nD) (k k' : Fin 7), peer c k = peer c k' → k = k' := by decide
theorem peer_ne : ∀ (c : Dev nD) (k : Fin 7), peer c k ≠ c := by decide
theorem peer_cover : ∀ c : Dev nD, (Finset.univ : Finset (Dev nD)) = insert c (Finset.univ.map ⟨peer c, fun k k' h => peer_inj c k k' h⟩) := by
  decide

/-- Step `k` seen as a permutation of the devices. -/
def shift (k : Fin 7) : Dev nD ≃ Dev nD := ⟨fun c => peer c k, fun c => origin c k, fun c => origin_peer c k, fun c => peer_origin c k⟩

/-! ## Resources -/

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Cells -/

abbrev barS : Sem sig := (SemArray.scalar (sig.barrier 0 rfl) : Sems sig S_).sem
/-- The semaphore that tells the sender of step `k` its source block is free. -/
def sndS (k : Fin 7) : DmaSem sig := ⟨5 + k.val, by have := k.isLt; show _ < 19; omega⟩
/-- The semaphore that tells a receiver that the copy of step `k` has landed. -/
def rcvS (k : Fin 7) : DmaSem sig := ⟨12 + k.val, by have := k.isLt; show _ < 19; omega⟩

abbrev barCell (c : Dev nD) : GSem nD τ sig := ((c : Thread nD τ), .reg barS)
abbrev sndCell (c : Dev nD) (k : Fin 7) : GSem nD τ sig := ((c : Thread nD τ), .dma (sndS k))
abbrev rcvCell (c : Dev nD) (k : Fin 7) : GSem nD τ sig := ((c : Thread nD τ), .dma (rcvS k))

/-! ## The gathered buffer, block by block -/

abbrev gM : Memref sig .tc .vmem S512x512 .bf16 := Memref.whole cc0_scratch0
/-- The 64 rows of the gathered buffer that device `d` fills. -/
abbrev blk (d : Dev nD) : Memref sig .tc .vmem S64x512 .bf16 :=
  gM.slice (Rect.unit (s := S512x512) (k0_off2 d) S64x512.size (k0_off2_inb d)) (fun _ => rfl)

/-- What one copy adds to a semaphore. -/
abbrev N : ℕ := (blk 0).view.dmaCredit
theorem N_pos : 0 < N := View.dmaCredit_pos _ (by decide)

/-- Contents of the gathered buffer. -/
abbrev Gath (F : FTy → Type) : Type := (cc0_scratch0 : Ref sig .tc).ty.Contents (Elt F)

/-- Device `c` holds block `d` of its gathered buffer at share `q`, with contents `f`. -/
abbrev blkPts (c d : Dev nD) (q : PosShare TreeShare) (f : Gath F) : sProp 𝕄 :=
  ((c : Thread nD τ).loc cc0_scratch0) ↦[(blk d).view.set]{q} f

/-- The share of its own block that a device lends to its copy of step `k`. -/
abbrev lent (k : Fin 7) : PosShare TreeShare := Transfers.dealOf fullShare (Finset.univ : Finset (Fin 7)) k

variable (G : Gath F)

/-! ## The schedule -/

/-- Paid with the signal of step `k` to `c`: the sender's block `c`, and that its receive cell for `c`'s copy is ready. -/
def barPay (c : Dev nD) (k : Fin 7) : sProp 𝕄 :=
  iprop((∃ f : Gath F, blkPts (origin c k) c fullShare f) ∗ reached ER (rcvCell (origin c k) k.rev) 0)
/-- Paid with the landing of step `k`'s copy on `c`: the sender's block at its final contents. -/
def rcvPay (c : Dev nD) (k : Fin 7) : sProp 𝕄 := blkPts c (origin c k) fullShare G
/-- Paid when step `k`'s copy has left `c`: the lent share of its own block. -/
def sndPay (c : Dev nD) (k : Fin 7) : sProp 𝕄 := blkPts c c (lent k) G

def rd : Rounds.Schedule (GSem nD τ sig) (Fin 7) 𝕄 where
  duties g r := if r = 0 ∧ g.1.2 = .tc then (match g.2 with | .reg _ => Finset.univ | .dma q => if 5 ≤ q.val then {0} else ∅) else ∅
  unitless _ := False
  amount g _ _ := match g.2 with | .reg _ => 1 | .dma _ => N
  payload g _ d := match g.2 with
    | .reg _ => barPay g.1.1 d
    | .dma q => if h : 5 ≤ q.val ∧ q.val < 12 then sndPay G g.1.1 ⟨q.val - 5, by omega⟩
        else if h : 12 ≤ q.val ∧ q.val < 19 then rcvPay G g.1.1 ⟨q.val - 12, by omega⟩ else iprop(emp)
  amount_pos g _ _ _ := by
    rcases g with ⟨t, s | q⟩
    · exact Nat.one_pos
    · exact N_pos

instance barPay_storable (c : Dev nD) (k : Fin 7) : BI.Storable (upEmb : UEmb _ 𝕄) (barPay (F := F) c k) := by
  unfold barPay; infer_instance
instance rcvPay_storable (c : Dev nD) (k : Fin 7) : BI.Storable (upEmb : UEmb _ 𝕄) (rcvPay G c k) := by
  unfold rcvPay; infer_instance
instance sndPay_storable (c : Dev nD) (k : Fin 7) : BI.Storable (upEmb : UEmb _ 𝕄) (sndPay G c k) := by
  unfold sndPay; infer_instance

instance payload_storable (g : GSem nD τ sig) (r : ℕ) (d : Fin 7) : BI.Storable (upEmb : UEmb _ 𝕄) ((rd G).payload g r d) := by
  rcases g with ⟨t, s | q⟩
  · show BI.Storable upEmb (barPay t.1 d); infer_instance
  · show BI.Storable upEmb (if h : 5 ≤ q.val ∧ q.val < 12 then sndPay G t.1 ⟨q.val - 5, by omega⟩
        else if h : 12 ≤ q.val ∧ q.val < 19 then rcvPay G t.1 ⟨q.val - 12, by omega⟩ else iprop(emp))
    split
    · infer_instance
    split <;> infer_instance

section Sched
variable (c : Dev nD) (k : Fin 7)

theorem duties_bar : (rd G).duties (barCell c) 0 = Finset.univ := by dsimp only [rd]; exact if_pos ⟨rfl, rfl⟩
theorem duties_snd : (rd G).duties (sndCell c k) 0 = {0} := by
  dsimp only [rd]; rw [if_pos ⟨rfl, rfl⟩]; exact if_pos (Nat.le_add_right 5 k.val)
theorem duties_rcv : (rd G).duties (rcvCell c k) 0 = {0} := by
  dsimp only [rd]; rw [if_pos ⟨rfl, rfl⟩]; exact if_pos ((by decide : 5 ≤ 12).trans (Nat.le_add_right 12 k.val))
theorem duties_later (g : GSem nD τ sig) : ∀ r, 1 ≤ r → (rd G).duties g r = ∅ :=
  fun r hr => by dsimp only [rd]; exact if_neg (fun h => by omega)

theorem amount_bar (d : Fin 7) : (rd G).amount (barCell c) 0 d = 1 := rfl
theorem amount_snd (d : Fin 7) : (rd G).amount (sndCell c k) 0 d = N := rfl
theorem amount_rcv (d : Fin 7) : (rd G).amount (rcvCell c k) 0 d = N := rfl

theorem expect_bar : (rd G).expect (barCell c) 0 = 7 := by
  unfold Schedule.expect Schedule.amountOf
  rw [duties_bar, Finset.sum_congr rfl fun d _ => amount_bar G c d]; rfl
theorem expect_snd : (rd G).expect (sndCell c k) 0 = N := by
  unfold Schedule.expect Schedule.amountOf; rw [duties_snd, Finset.sum_singleton, amount_snd]
theorem expect_rcv : (rd G).expect (rcvCell c k) 0 = N := by
  unfold Schedule.expect Schedule.amountOf; rw [duties_rcv, Finset.sum_singleton, amount_rcv]

theorem payload_bar (d : Fin 7) : (rd G).payload (barCell c) 0 d = barPay c d := rfl
theorem payload_snd (d : Fin 7) : (rd G).payload (sndCell c k) 0 d = sndPay G c k := by
  have hk := k.isLt
  show (if h : 5 ≤ 5 + k.val ∧ 5 + k.val < 12 then sndPay G c ⟨5 + k.val - 5, by omega⟩ else _) = _
  rw [dif_pos ⟨by omega, by omega⟩]
  exact congrArg (sndPay G c) (Fin.ext (by simp only []; omega))
theorem payload_rcv (d : Fin 7) : (rd G).payload (rcvCell c k) 0 d = rcvPay G c k := by
  have hk := k.isLt
  show (if h : 5 ≤ 12 + k.val ∧ 12 + k.val < 12 then _ else if h : 12 ≤ 12 + k.val ∧ 12 + k.val < 19 then rcvPay G c ⟨12 + k.val - 12, by omega⟩ else _) = _
  rw [dif_neg (by omega), dif_pos ⟨by omega, by omega⟩]
  exact congrArg (rcvPay G c) (Fin.ext (by simp only []; omega))

theorem rest_bar : bigSep ((rd G).duties (barCell c) 0 \ ∅) (fun d => (rd G).payload (barCell c) 0 d) = bigSep Finset.univ (fun d => barPay c d) := by
  rw [Finset.sdiff_empty, duties_bar]; rfl
theorem rest_snd : bigSep ((rd G).duties (sndCell c k) 0 \ ∅) (fun d => (rd G).payload (sndCell c k) 0 d) = sndPay G c k := by
  rw [Finset.sdiff_empty, duties_snd, bigSep_singleton, payload_snd]
theorem rest_rcv : bigSep ((rd G).duties (rcvCell c k) 0 \ ∅) (fun d => (rd G).payload (rcvCell c k) 0 d) = rcvPay G c k := by
  rw [Finset.sdiff_empty, duties_rcv, bigSep_singleton, payload_rcv]

end Sched

/-! ## Steps still to come, steps done -/

/-- The steps from `n` on. -/
def ge (n : ℕ) : Finset (Fin 7) := Finset.univ.filter fun k => n ≤ k.val
/-- The steps before `n`. -/
def lt (n : ℕ) : Finset (Fin 7) := Finset.univ.filter fun k => k.val < n

theorem ge_zero : ge 0 = Finset.univ := by decide
theorem ge_seven : ge 7 = ∅ := by decide
theorem lt_zero : lt 0 = ∅ := by decide
theorem lt_seven : lt 7 = Finset.univ := by decide
theorem ge_step : ∀ k : Fin 7, ge k.val = insert k (ge (k.val + 1)) := by decide
theorem ge_step_mem : ∀ k : Fin 7, k ∉ ge (k.val + 1) := by decide
theorem lt_step : ∀ k : Fin 7, lt (k.val + 1) = insert k (lt k.val) := by decide
theorem lt_step_mem : ∀ k : Fin 7, k ∉ lt k.val := by decide

theorem bigSep_ge {M : Type} [URA M] (k : Fin 7) (Φ : Fin 7 → sProp M) : bigSep (ge k.val) Φ = iprop(Φ k ∗ bigSep (ge (k.val + 1)) Φ) := by
  rw [ge_step k, bigSep_insert (ge_step_mem k)]; rfl
theorem bigSep_lt {M : Type} [URA M] (k : Fin 7) (Φ : Fin 7 → sProp M) : bigSep (lt (k.val + 1)) Φ = iprop(Φ k ∗ bigSep (lt k.val) Φ) := by
  rw [lt_step k, bigSep_insert (lt_step_mem k)]; rfl

/-! ## What a device owes; levels -/

/-- The barrier units `c` has still to signal from step `i` on, and the copies it has still to make from step `j` on. -/
def owed (i j : ℕ) (c : Dev nD) : CellTallies nD τ sig Unit :=
  (∑ k ∈ ge j, tallyAt (rcvCell (peer c k) k) () N) + ∑ k ∈ ge i, tallyAt (barCell (peer c k)) () 1

theorem owed_signal (j : ℕ) (c : Dev nD) (k : Fin 7) : owed k.val j c = owed (k.val + 1) j c + tallyAt (barCell (peer c k)) () 1 := by
  unfold owed; rw [ge_step k, Finset.sum_insert (ge_step_mem k), add_assoc, add_comm (tallyAt _ _ _)]
theorem owed_send (c : Dev nD) (k : Fin 7) : owed 7 k.val c = owed 7 (k.val + 1) c + tallyAt (rcvCell (peer c k) k) () N := by
  unfold owed; rw [ge_step k, Finset.sum_insert (ge_step_mem k), ge_seven, Finset.sum_empty, add_zero, add_zero, add_comm]
theorem owed_done (c : Dev nD) : owed 7 7 c = 0 := by
  unfold owed; rw [ge_seven, Finset.sum_empty, Finset.sum_empty, add_zero]

def L (g : GSem nD τ sig) : Finset Unit := if g.1.2 = .tc then {()} else ∅
/-- Barrier cells at 1, receive cells at 2, the rest at 0. -/
def lv (g : GSem nD τ sig) (_ : Unit) : ℕ := match g.2 with | .reg _ => 1 | .dma q => if 12 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_rcv (c : Dev nD) (k : Fin 7) (u : Unit) : lv (rcvCell c k) u = 2 := if_pos (Nat.le_add_right 12 k.val)

theorem owed_pos {i j : ℕ} {c : Dev nD} {g : GSem nD τ sig} {u : Unit} (h : 0 < owed i j c g u) :
    (∃ k, g = rcvCell (peer c k) k) ∨ ∃ k ∈ ge i, g = barCell (peer c k) := by
  unfold owed at h
  rw [Pi.add_apply, Finsupp.add_apply, Finset.sum_apply, Finset.sum_apply, Finsupp.finset_sum_apply, Finsupp.finset_sum_apply] at h
  rcases Nat.add_pos_iff_pos_or_pos.mp h with h | h
  · obtain ⟨k, -, hk⟩ := Finset.sum_pos_iff.mp h
    rw [tallyAt_apply] at hk
    split at hk
    · next e => exact .inl ⟨k, e.1⟩
    · exact absurd hk (Nat.lt_irrefl 0)
  · obtain ⟨k, hm, hk⟩ := Finset.sum_pos_iff.mp h
    rw [tallyAt_apply] at hk
    split at hk
    · next e => exact .inr ⟨k, hm, e.1⟩
    · exact absurd hk (Nat.lt_irrefl 0)

/-- Whatever a device owes stands above level zero. -/
theorem owed_level {i j : ℕ} {c : Dev nD} {g : GSem nD τ sig} {u : Unit} (h : 0 < owed i j c g u) : u ∈ L g ∧ 0 < lv g u := by
  rcases owed_pos h with ⟨k, rfl⟩ | ⟨k, -, rfl⟩
  · exact ⟨by rw [L_tc]; exact Finset.mem_singleton_self _, by rw [lv_rcv]; decide⟩
  · exact ⟨by rw [L_tc]; exact Finset.mem_singleton_self _, by rw [lv_bar]; decide⟩

/-- At the barrier a device owes only copies. -/
theorem mayWait_bar (c : Dev nD) : (levAts L lv : sProp 𝕄) ⊢ MayWait (c : Thread nD τ) (.reg barS) () (owed 7 0 c) := by
  have hp {g : GSem nD τ sig} {u : Unit} (h : 0 < owed 7 0 c g u) : ∃ k, g = rcvCell (peer c k) k := by
    rcases owed_pos h with h | ⟨k, hk, -⟩
    · exact h
    · rw [ge_seven] at hk; exact absurd hk (Finset.notMem_empty k)
  exact MayOwe.of_cut (L := L) (lev := lv) 1 (fun p hp => by rw [Finset.mem_singleton.mp hp, L_tc]; exact Finset.mem_singleton_self _)
    (fun g u hg => by obtain ⟨k, rfl⟩ := hp hg; rw [L_tc]; exact Finset.mem_singleton_self _)
    (fun p hp => by rw [Finset.mem_singleton.mp hp]; exact le_of_eq (lv_bar c _))
    (fun g u hg => by obtain ⟨k, rfl⟩ := hp hg; rw [lv_rcv]; decide)

end Cert.Exchange

end
-- ==== Proof.Steps.lean ====
/-
  One step of the exchange at a time: the blocks of the gathered buffer, and a rule for each kind of step a device
  takes (a signal, the wait at the barrier, a copy, a wait for a copy), stated for every step number.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks -/

/-- Block `d` is the rows `64 d … 64 d + 63`. -/
theorem mem_blk (d : Dev nD) (i : (cc0_scratch0 : Ref sig .tc).ty.Idx) : i ∈ ((blk d).view.set : Finset (cc0_scratch0 : Ref sig .tc).ty.Idx) ↔ (i 0).val / 64 = d.val := by
  rw [show (blk d).view.set = (Rect.unit (s := S512x512) (k0_off2 d) S64x512.size (k0_off2_inb d)).set from View.set_slice_whole _ _,
    Rect.mem_set_unit, k0_off2_eq]
  have h1 : (i 1).val < 512 := (i 1).isLt
  constructor
  · intro h
    have h0 := h 0
    have e1 : (![64 * d.val, 0] : Fin 2 → ℕ) 0 = 64 * d.val := rfl
    have e2 : S64x512.size 0 = 64 := rfl
    rw [e1, e2] at h0
    omega
  · intro h a
    fin_cases a
    · show 64 * d.val ≤ (i 0).val ∧ (i 0).val < 64 * d.val + 64
      omega
    · show 0 ≤ (i 1).val ∧ (i 1).val < 0 + 512
      omega

theorem blk_disjoint (d d' : Dev nD) (h : d ≠ d') : Disjoint (blk d).view.set (blk d').view.set := by
  rw [Finset.disjoint_left]
  intro i hi hi'
  exact h (Fin.ext (((mem_blk d i).mp hi).symm.trans ((mem_blk d' i).mp hi')))

/-- The elements of block `d`. -/
abbrev rows (d : Dev nD) : Finset (cc0_scratch0 : Ref sig .tc).ty.Idx := (blk d).view.set

theorem blk_cover : (Finset.univ : Finset (Dev nD)).biUnion rows = Finset.univ := by
  refine Finset.eq_univ_of_forall fun i => Finset.mem_biUnion.mpr ?_
  have h0 : (i 0).val < 512 := (i 0).isLt
  have h1 : (i 0).val / 64 < 8 := by omega
  have h2 : i ∈ rows ⟨(i 0).val / 64, h1⟩ := (mem_blk ⟨(i 0).val / 64, h1⟩ i).mpr (Eq.refl ((i 0).val / 64))
  exact ⟨⟨(i 0).val / 64, h1⟩, Finset.mem_univ _, h2⟩

/-- The whole gathered buffer is its own block and the peers' blocks. -/
theorem blks (c : Dev nD) (f : Gath F) :
    (((c : Thread nD τ).loc cc0_scratch0 ↦{fullShare} f : sProp 𝕄))
      = iprop(blkPts c c fullShare f ∗ bigSep Finset.univ fun k => blkPts c (peer c k) fullShare f) := by
  rw [Ring.pointsTo_blocks (ℓ := (c : Thread nD τ).loc cc0_scratch0) rows (fun d d' h => blk_disjoint d d' h) blk_cover f,
    peer_cover c, bigSep_insert (by
      intro h
      obtain ⟨k, -, hk⟩ := Finset.mem_map.mp h
      exact peer_ne c k hk), bigSep_map]
  rfl

/-- The block's share lent to the seven copies. -/
theorem lend (c : Dev nD) (f : Gath F) :
    (blkPts c c fullShare f : sProp 𝕄) = bigSep Finset.univ fun k : Fin 7 => blkPts c c (lent k) f :=
  Transfers.pointsTo_deal Finset.univ Finset.univ_nonempty fullShare

/-- Storing what `G`'s block reads gives `G` on the block. -/
theorem written (c : Dev nD) (f : Gath F) (G : Gath F) (i) (hi : i ∈ (blk c).view.set) :
    (blk c).view.write (Elt F) f ((blk c).view.read (Elt F) G) Finset.univ i = G i := by
  obtain ⟨x, -, rfl⟩ := Finset.mem_map.mp hi
  exact (View.write_emb_of_mem _ _ (Finset.mem_univ x)).trans (by rw [View.read_apply]; rfl)

variable (G : Gath F)

/-! ## What every device knows, and the tickets for each step -/

/-- The invariants of all cells, and that every barrier is open. -/
def records (κ : GSem nD τ sig → ℕ) : sProp 𝕄 :=
  iprop((bigSep Finset.univ fun c : Dev nD => cellInv ER (rd G) (κ (barCell c)) (barCell c))
    ∗ (bigSep Finset.univ fun p : Dev nD × Fin 7 => cellInv ER (rd G) (κ (sndCell p.1 p.2)) (sndCell p.1 p.2))
    ∗ (bigSep Finset.univ fun p : Dev nD × Fin 7 => cellInv ER (rd G) (κ (rcvCell p.1 p.2)) (rcvCell p.1 p.2))
    ∗ bigSep Finset.univ fun c : Dev nD => reached ER (barCell c) 0)
instance records_persistent (κ : GSem nD τ sig → ℕ) : BI.Persistent (records G κ) := by unfold records; infer_instance

/-- What device `c` knows once its own transfer cells are open. -/
def known (κ : GSem nD τ sig → ℕ) (c : Dev nD) : sProp 𝕄 :=
  iprop(records G κ ∗ (bigSep Finset.univ fun k => reached ER (sndCell c k) 0) ∗ bigSep Finset.univ fun k => reached ER (rcvCell c k) 0)
instance known_persistent (κ : GSem nD τ sig → ℕ) (c : Dev nD) : BI.Persistent (known G κ c) := by unfold known; infer_instance

/-- One of a family held. -/
theorem pick {I : Type} [DecidableEq I] [Fintype I] (Φ : I → sProp 𝕄) (i : I) : bigSep Finset.univ Φ ⊢ Φ i :=
  bigSep_elim (Finset.mem_univ i)

section Know
variable (κ : GSem nD τ sig → ℕ) (c : Dev nD)
theorem records_bar (d : Dev nD) : records G κ ⊢ cellInv ER (rd G) (κ (barCell d)) (barCell d) := by
  unfold records; iintro ⟨H, -, -, -⟩
  iapply (pick (fun c : Dev nD => (cellInv ER (rd G) (κ (barCell c)) (barCell c) : sProp 𝕄)) d) $$ H
theorem records_snd (d : Dev nD) (k : Fin 7) : records G κ ⊢ cellInv ER (rd G) (κ (sndCell d k)) (sndCell d k) := by
  unfold records; iintro ⟨-, H, -, -⟩
  iapply (pick (fun p : Dev nD × Fin 7 => (cellInv ER (rd G) (κ (sndCell p.1 p.2)) (sndCell p.1 p.2) : sProp 𝕄)) (d, k)) $$ H
theorem records_rcv (d : Dev nD) (k : Fin 7) : records G κ ⊢ cellInv ER (rd G) (κ (rcvCell d k)) (rcvCell d k) := by
  unfold records; iintro ⟨-, -, H, -⟩
  iapply (pick (fun p : Dev nD × Fin 7 => (cellInv ER (rd G) (κ (rcvCell p.1 p.2)) (rcvCell p.1 p.2) : sProp 𝕄)) (d, k)) $$ H
theorem records_open (d : Dev nD) : records G κ ⊢ reached ER (barCell d) 0 := by
  unfold records; iintro ⟨-, -, -, H⟩
  iapply (pick (fun c : Dev nD => (reached ER (barCell c) 0 : sProp 𝕄)) d) $$ H
theorem known_records : known G κ c ⊢ records G κ := by unfold known; iintro ⟨H, -, -⟩; iexact H
theorem known_snd (k : Fin 7) : known G κ c ⊢ reached ER (sndCell c k) 0 := by
  unfold known; iintro ⟨-, H, -⟩
  iapply (pick (fun k : Fin 7 => (reached ER (sndCell c k) 0 : sProp 𝕄)) k) $$ H
theorem known_rcv (k : Fin 7) : known G κ c ⊢ reached ER (rcvCell c k) 0 := by
  unfold known; iintro ⟨-, -, H⟩
  iapply (pick (fun k : Fin 7 => (reached ER (rcvCell c k) 0 : sProp 𝕄)) k) $$ H
end Know

/-- For the signal of step `k`: its duty, and the block it hands over. -/
def sigT (c : Dev nD) (k : Fin 7) : sProp 𝕄 :=
  iprop(dutyTok ER (barCell (peer c k)) 0 k ∗ ∃ f : Gath F, blkPts c (peer c k) fullShare f)
/-- Got at the barrier for step `k`: the peer's block, and that the peer's receive cell is ready. -/
def slotT (c : Dev nD) (k : Fin 7) : sProp 𝕄 :=
  iprop((∃ f : Gath F, blkPts (peer c k) c fullShare f) ∗ reached ER (rcvCell (peer c k) k) 0)
/-- The duties of the copy of step `k`, and the position on its send cell. -/
def dutyT (c : Dev nD) (k : Fin 7) : sProp 𝕄 :=
  iprop(dutyTok ER (rcvCell (peer c k) k) 0 0 ∗ dutyTok ER (sndCell c k) 0 0 ∗ atPos ER (sndCell c k) 0 ∅ 0)
/-- For the copy of step `k`. -/
def sendT (c : Dev nD) (k : Fin 7) : sProp 𝕄 := iprop(dutyT c k ∗ blkPts c c (lent k) G ∗ slotT c k)
/-- For the wait that ends the copy of step `k`. -/
def sndW (c : Dev nD) (k : Fin 7) : sProp 𝕄 := iprop(cred (tallyAt (sndCell c k) () N) ∗ atPos ER (sndCell c k) 0 ∅ 0)
/-- For the wait for the copy that arrives in step `k`. -/
def rcvW (c : Dev nD) (k : Fin 7) : sProp 𝕄 := iprop(cred (tallyAt (rcvCell c k) () N) ∗ atPos ER (rcvCell c k) 0 ∅ 0)
/-- After these waits. -/
def sndD (c : Dev nD) (k : Fin 7) : sProp 𝕄 := iprop(sndPay G c k ∗ atPos ER (sndCell c k) 1 ∅ 0)
def rcvD (c : Dev nD) (k : Fin 7) : sProp 𝕄 := iprop(rcvPay G c k ∗ atPos ER (rcvCell c k) 1 ∅ 0)

/-- What the signal of step `k` pays. -/
theorem pay_peer (c : Dev nD) (k : Fin 7) :
    (barPay (F := F) (peer c k) k) = iprop((∃ f : Gath F, blkPts c (peer c k) fullShare f) ∗ reached ER (rcvCell c k.rev) 0) := by
  unfold barPay; rw [origin_peer]

/-- What the seven signals have brought, told by the peer. -/
theorem pays_slots (c : Dev nD) : (bigSep Finset.univ fun k => barPay (F := F) c k) = bigSep Finset.univ fun k => slotT (F := F) c k := by
  rw [bigSep_univ_equiv (Equiv.ofBijective (Fin.rev : Fin 7 → Fin 7) Fin.rev_bijective) (fun k => barPay (F := F) c k)]
  refine bigSep_congr fun k _ => ?_
  show barPay c k.rev = slotT c k
  unfold barPay slotT; rw [origin_rev, Fin.rev_rev]

/-! ## The steps -/

abbrev 𝒱₀ : Variants := Variants.none

variable (κ : GSem nD τ sig → ℕ) (c : Dev nD) (k : Fin 7) {α : Type} {W : Waits sig Unit}

local notation "WP" => wp frame (wpE (defs₀ (F := F)) 𝒱₀ (c : Thread nD τ) none) Set.univ

theorem signal_step {d : Dev nD} (hd : d = peer c k) (j : ℕ) {n : ℤ} (hn : n = ((1 : ℕ) : ℤ)) {cont : PUnit → Prog (TpuEff nD τ sig (Elt F) Λ₀ .tc) α} (Kt : α → sProp 𝕄) :
    iprop(known G κ c ∗ owes (c : Thread nD τ) (owed k.val j c) W ∗ bigSep (ge k.val) (sigT c))
      ⊢ iprop(((owes (c : Thread nD τ) (owed (k.val + 1) j c) W ∗ bigSep (ge (k.val + 1)) (sigT c)) -∗ WP (cont ⟨⟩) Kt)
        -∗ WP (.op (.semSignal (d : Thread nD τ) barS n) cont) Kt) := by
  subst hd hn
  rw [bigSep_ge]
  iintro ⟨#HK, HO, ⟨Ht, Hrest⟩⟩ Hk
  unfold sigT
  icases Ht with ⟨Htok, Hb⟩
  ihave #HR := (known_records G κ c) $$ HK
  iapply (Rounds.wp_signal 𝒱₀ ER (rd G) (c : Thread nD τ) none (dst := (peer c k : Thread nD τ)) (sem := barS) (r := 0) (d := k) (κ := κ (barCell (peer c k)))
      (by rw [duties_bar]; exact Finset.mem_univ _) (amount_bar G (peer c k) k) () (O₀ := owed k.val j c) (owed (k.val + 1) j c) (owed_signal j c k) (W := W)) $$ [HO Htok Hb]
  · isplitr; · iapply (records_bar G κ (peer c k)); iexact HR
    isplitl [HO]; · iexact HO
    isplitl [Htok]; · iexact Htok
    isplitl [Hb]
    · rw [payload_bar, pay_peer]
      isplitl [Hb]; · iexact Hb
      iapply (known_rcv G κ c k.rev); iexact HK
    iapply (records_open G κ (peer c k)); iexact HR
  iintro HO
  iapply Hk
  isplitl [HO] <;> iassumption

theorem barrier_step {n : ℤ} (hn : n = ((7 : ℕ) : ℤ)) {cont : PUnit → Prog (TpuEff nD τ sig (Elt F) Λ₀ .tc) α} (Kt : α → sProp 𝕄) :
    iprop(known G κ c ∗ levAts L lv ∗ cred (tallyAt (barCell c) () 7) ∗ owes (c : Thread nD τ) (owed 7 0 c) W ∗ atPos ER (barCell c) 0 ∅ 0)
      ⊢ iprop((((∃ W, owes (c : Thread nD τ) (owed 7 0 c) W) ∗ atPos ER (barCell c) 1 ∅ 0 ∗ bigSep Finset.univ (slotT (F := F) c)) -∗ WP (cont ⟨⟩) Kt)
        -∗ WP (.op (.semWait barS n) cont) Kt) := by
  subst hn
  iintro ⟨#HK, #Hlev, Hc, HO, Hat⟩ Hk
  ihave #HR := (known_records G κ c) $$ HK
  iapply (Rounds.wp_wait_rest_token 𝒱₀ ER (rd G) (c : Thread nD τ) none (κ := κ (barCell c))
      (wpE_semWait_eq 𝒱₀ (c : Thread nD τ) none Set.univ) (Set.mem_univ _) () (O := owed 7 0 c) (W := W) (R := 0) (m := 0) (T := ∅)
      ((Nat.zero_add _).trans (expect_bar G c).symm)) $$ [Hc HO Hat]
  · isplitr; · iapply (records_bar G κ c); iexact HR
    isplitl [Hc]; · iexact Hc
    isplitl [HO]; · iexact HO
    isplitr; · iapply (mayWait_bar c); iexact Hlev
    iexact Hat
  iintro ⟨HO, Hat, -, Hpay⟩
  ihave Hp := (Entails.of_eq ((rest_bar G c).trans (pays_slots c))) $$ Hpay
  iapply Hk
  isplitl [HO]; · iexists _; iexact HO
  isplitl [Hat] <;> iassumption

theorem send_step {d : Dev nD} (hd : d = peer c k) {sS sR : DmaSem sig} (hS : sS = sndS k) (hR : sR = rcvS k)
    {hsc : (blk c).view.ref.isScScratch = false} {hsrc : (blk c).view.WordExact} {hdst : (blk c).view.WordExact}
    {hsem : DmaTarget.Typed .vmem (SemLoc.dma sR) (.remote (d : Thread nD τ) (blk c) (.dma sS) hsc)} {cont : PUnit → Prog (TpuEff nD τ sig (Elt F) Λ₀ .tc) α} (Kt : α → sProp 𝕄) :
    iprop(known G κ c ∗ owes (c : Thread nD τ) (owed 7 k.val c) W ∗ bigSep (ge k.val) (sendT G c) ∗ bigSep (lt k.val) (sndW (F := F) c))
      ⊢ iprop(((owes (c : Thread nD τ) (owed 7 (k.val + 1) c) W ∗ bigSep (ge (k.val + 1)) (sendT G c) ∗ bigSep (lt (k.val + 1)) (sndW (F := F) c)) -∗ WP (cont ⟨⟩) Kt)
        -∗ WP (.op (.enqueueDma (blk c) (.remote (d : Thread nD τ) (blk c) (.dma sS) hsc) (.dma sR) hsrc hdst hsem) cont) Kt) := by
  subst hd hS hR
  rw [bigSep_ge, bigSep_lt]
  iintro ⟨#HK, HO, ⟨Ht, Hrest⟩, Hdone⟩ Hk
  unfold sendT dutyT slotT
  icases Ht with ⟨⟨HtR, HtS, Hat⟩, Hsrc, ⟨%fd, Hdst⟩, #HrR⟩
  ihave #HR := (known_records G κ c) $$ HK
  iapply (Rounds.wp_send_pointsTo 𝒱₀ ER (rd G) (c : Thread nD τ) none (c' := (peer c k : Thread nD τ)) (src := blk c) (dst := blk c)
      (sS := .dma (sndS k)) (sem := .dma (rcvS k)) (q := lent k) (fs := G) (κ₁ := κ (sndCell c k)) (κ₂ := κ (rcvCell (peer c k) k))
      (r₁ := 0) (r₂ := 0) (d₁ := 0) (d₂ := 0) (fd := fd)
      (by rw [duties_snd]; exact Finset.mem_singleton_self _) (by rw [duties_rcv]; exact Finset.mem_singleton_self _)
      () () N rfl (amount_snd G c k 0) (amount_rcv G (peer c k) k 0) (O₀ := owed 7 k.val c) (owed 7 (k.val + 1) c) (owed_send c k) (W := W)
      (by rw [payload_snd]; exact BI.Entails.refl _)
      (by rw [payload_rcv]; unfold rcvPay; rw [origin_peer]; exact Entails.of_eq (pointsTo_congr fun i hi => written c fd G i hi))) $$ [Hsrc Hdst HO HtS HtR]
  · isplitr; · iapply (records_snd G κ c k); iexact HR
    isplitr; · iapply (records_rcv G κ (peer c k) k); iexact HR
    isplitl [Hsrc]; · iexact Hsrc
    isplitl [Hdst]; · iexact Hdst
    isplitl [HO]; · iexact HO
    isplitl [HtS]; · iexact HtS
    isplitr; · iapply (known_snd G κ c k); iexact HK
    isplitl [HtR]; · iexact HtR
    iexact HrR
  iintro ⟨HcS, HO⟩
  iapply Hk
  isplitl [HO]; · iexact HO
  isplitl [Hrest]; · iexact Hrest
  isplitl [HcS Hat]
  · unfold sndW; isplitl [HcS] <;> iassumption
  iexact Hdone

/-- Nothing is owed any more. -/
def idle (c : Dev nD) : sProp 𝕄 := iprop(∃ W, owes (c : Thread nD τ) (0 : CellTallies nD τ sig Unit) W)

theorem waitSnd_step {sS : DmaSem sig} (hS : sS = sndS k) {d : Dev nD} {hsrc : (blk d).view.WordExact} {hdst : (blk d).view.WordExact}
    {cont : PUnit → Prog (TpuEff nD τ sig (Elt F) Λ₀ .tc) α} (Kt : α → sProp 𝕄) :
    iprop(known G κ c ∗ idle c ∗ bigSep (ge k.val) (sndW (F := F) c) ∗ bigSep (lt k.val) (sndD G c))
      ⊢ iprop(((idle c ∗ bigSep (ge (k.val + 1)) (sndW (F := F) c) ∗ bigSep (lt (k.val + 1)) (sndD G c)) -∗ WP (cont ⟨⟩) Kt)
        -∗ WP (.op (.waitDma2 sS (blk d) (blk d) hsrc hdst) cont) Kt) := by
  subst hS
  rw [bigSep_ge, bigSep_lt]
  unfold idle
  iintro ⟨#HK, ⟨%W, HO⟩, ⟨Ht, Hrest⟩, Hdone⟩ Hk
  unfold sndW
  icases Ht with ⟨Hc, Hat⟩
  ihave #HR := (known_records G κ c) $$ HK
  iapply (Rounds.wp_wait_rest_token 𝒱₀ ER (rd G) (c : Thread nD τ) none (κ := κ (sndCell c k))
      (wpE_waitDma2_eq (src := blk d) (dst := blk d) 𝒱₀ (c : Thread nD τ) none Set.univ) (Set.mem_univ _) () (O := 0) (W := W) (R := 0) (m := 0) (T := ∅)
      ((Nat.zero_add _).trans (expect_snd G c k).symm)) $$ [Hc HO Hat]
  · isplitr; · iapply (records_snd G κ c k); iexact HR
    isplitl [Hc]; · iexact Hc
    isplitl [HO]; · iexact HO
    isplitr; · rw [MayWait_zero]; iempintro
    iexact Hat
  iintro ⟨HO, Hat, -, Hpay⟩
  ihave Hp := (Entails.of_eq (rest_snd G c k)) $$ Hpay
  iapply Hk
  isplitl [HO]; · iexists _; iexact HO
  isplitl [Hrest]; · iexact Hrest
  isplitl [Hp Hat]
  · unfold sndD; isplitl [Hp] <;> iassumption
  iexact Hdone

theorem waitRcv_step {sR : DmaSem sig} (hR : sR = rcvS k) {d : Dev nD} {hsrc : (blk d).view.WordExact} {hdst : (blk d).view.WordExact}
    {cont : PUnit → Prog (TpuEff nD τ sig (Elt F) Λ₀ .tc) α} (Kt : α → sProp 𝕄) :
    iprop(known G κ c ∗ idle c ∗ bigSep (ge k.val) (rcvW (F := F) c) ∗ bigSep (lt k.val) (rcvD G c))
      ⊢ iprop(((idle c ∗ bigSep (ge (k.val + 1)) (rcvW (F := F) c) ∗ bigSep (lt (k.val + 1)) (rcvD G c)) -∗ WP (cont ⟨⟩) Kt)
        -∗ WP (.op (.waitDma2 sR (blk d) (blk d) hsrc hdst) cont) Kt) := by
  subst hR
  rw [bigSep_ge, bigSep_lt]
  unfold idle
  iintro ⟨#HK, ⟨%W, HO⟩, ⟨Ht, Hrest⟩, Hdone⟩ Hk
  unfold rcvW
  icases Ht with ⟨Hc, Hat⟩
  ihave #HR := (known_records G κ c) $$ HK
  iapply (Rounds.wp_wait_rest_token 𝒱₀ ER (rd G) (c : Thread nD τ) none (κ := κ (rcvCell c k))
      (wpE_waitDma2_eq (src := blk d) (dst := blk d) 𝒱₀ (c : Thread nD τ) none Set.univ) (Set.mem_univ _) () (O := 0) (W := W) (R := 0) (m := 0) (T := ∅)
      ((Nat.zero_add _).trans (expect_rcv G c k).symm)) $$ [Hc HO Hat]
  · isplitr; · iapply (records_rcv G κ c k); iexact HR
    isplitl [Hc]; · iexact Hc
    isplitl [HO]; · iexact HO
    isplitr; · rw [MayWait_zero]; iempintro
    iexact Hat
  iintro ⟨HO, Hat, -, Hpay⟩
  ihave Hp := (Entails.of_eq (rest_rcv G c k)) $$ Hpay
  iapply Hk
  isplitl [HO]; · iexists _; iexact HO
  isplitl [Hrest]; · iexact Hrest
  isplitl [Hp Hat]
  · unfold rcvD; isplitl [Hp] <;> iassumption
  iexact Hdone

/-! ## Closing the cells -/

theorem close_cell (κ₁ : ℕ) (g : GSem nD τ sig) :
    iprop(cellInv ER (rd G) κ₁ g ∗ atPos ER g 1 ∅ 0) ⊢ (|={Set.univ}=> semVal g 0 : sProp 𝕄) :=
  Rounds.cell_close ER (rd G) (Set.mem_univ κ₁) id (duties_later G g)

/-- All send and all receive semaphores back at zero. -/
def sems0 (c : Dev nD) : sProp 𝕄 :=
  iprop((bigSep Finset.univ fun k => semVal (sndCell c k) 0) ∗ bigSep Finset.univ fun k => semVal (rcvCell c k) 0)

theorem close_snd : iprop(records G κ ∗ bigSep Finset.univ fun k => atPos ER (sndCell c k) 1 ∅ 0) ⊢ (|={Set.univ}=> bigSep Finset.univ fun k => semVal (sndCell c k) 0 : sProp 𝕄) :=
  (bigSep_with_persistent (R := records G κ) fun k _ => (sep_mono_left (records_snd G κ c k)).trans (close_cell G _ _)).trans (bigSep_fupd _ _)
theorem close_rcv : iprop(records G κ ∗ bigSep Finset.univ fun k => atPos ER (rcvCell c k) 1 ∅ 0) ⊢ (|={Set.univ}=> bigSep Finset.univ fun k => semVal (rcvCell c k) 0 : sProp 𝕄) :=
  (bigSep_with_persistent (R := records G κ) fun k _ => (sep_mono_left (records_rcv G κ c k)).trans (close_cell G _ _)).trans (bigSep_fupd _ _)

/-- The blocks that came back and the blocks that arrived make the whole gathered buffer. -/
theorem gather : iprop((bigSep Finset.univ fun k => sndPay G c k) ∗ bigSep Finset.univ fun k => rcvPay G c k)
    ⊢ (((c : Thread nD τ).loc cc0_scratch0 ↦{fullShare} G : sProp 𝕄)) := by
  rw [blks c G, lend c G,
    bigSep_univ_equiv (Equiv.ofBijective (Fin.rev : Fin 7 → Fin 7) Fin.rev_bijective) (fun k => rcvPay G c k)]
  refine sep_mono_right (Entails.of_eq (bigSep_congr fun k _ => ?_))
  show rcvPay G c k.rev = _
  unfold rcvPay; rw [origin_rev]

end Cert.Exchange

end
-- ==== Proof.Body.lean ====
/-
  What one device computes — its block of the gathered buffer, and its result from the gathered buffer — and the run
  of the kernel body on it.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

/-- The device's number as the kernel computes it. -/
def word (c : Dev nD) : BitVec 32 := Scalar.remsi (Scalar.divsi (Dev.word c) 1#32) 8#32

/-- The first and the second weight matrix of a device. -/
def slab0 (a3 : Vec F S2x256x512 .bf16) : Vec F S1x256x512 .bf16 :=
  (Memref.whole cc0_stg3_0 : Memref sig .tc .vmem S2x256x512 .bf16).view.readAt (Elt F) (Rect.unit (s := S2x256x512) ![0, 0, 0] S1x256x512.size inb_S2x256x512_S1x256x512_0_0_0).toLoadRect a3
def slab1 (a3 : Vec F S2x256x512 .bf16) : Vec F S1x256x512 .bf16 :=
  (Memref.whole cc0_stg3_0 : Memref sig .tc .vmem S2x256x512 .bf16).view.readAt (Elt F) (Rect.unit (s := S2x256x512) ![1, 0, 0] S1x256x512.size inb_S2x256x512_S1x256x512_1_0_0).toLoadRect a3

/-- The block that device `c` computes, from the expert numbers `a1`, the tokens `a2` and its weights `a3`. -/
def contrib (c : Dev nD) (a1 : Vec F S1x512 .i32) (a2 : Vec F S512x256 .bf16) (a3 : Vec F S2x256x512 .bf16) : FVec F S64x512 .bf16 :=
  k0_pay12 (k0_pay7 (k0_pay1 a1)) (k0_pay8 (k0_pay2 a1) (k0_pay3 a1) (k0_pay4 a1) (k0_pay5 a1) 0#32)
    (k0_pay9 (word c) (k0_pay2 a1) (k0_pay3 a1) (k0_pay4 a1) (k0_pay5 a1) 0#32) k0_pay10
    (k0_pay11 (word c) (k0_pay1 a1) (k0_pay2 a1) (k0_pay3 a1) (k0_pay4 a1) (k0_pay5 a1) 0#32 a2) (slab0 a3) a2 (slab1 a3)

/-- The matrix that picks every token's row, from the expert numbers `a0`. -/
def picker (a0 : Vec F S512x1 .i32) : FVec F S512x512 .bf16 :=
  k0_pay20 (k0_pay15 (k0_pay14 a0)) (k0_pay17 (k0_pay13 a0) (k0_pay14 a0)) (k0_pay18 (k0_pay13 a0)) k0_pay19

/-- The result, from the gathered buffer `G`. -/
def result (a0 : Vec F S512x1 .i32) (G : Gath F) : FVec F S512x512 .f32 := k0_pay21 (picker a0) G

/-! ## Whole loads and stores -/

theorem load0 (a : Vec F S512x1 .i32) : (Memref.whole cc0_stg0_0 : Memref sig .tc .vmem S512x1 .i32).view.readAt (Elt F)
    (Rect.unit (s := S512x1) ![0, 0] S512x1.size inb_S512x1_S512x1_0_0).toLoadRect a = a :=
  Memref.readAt_unit_zero (Elt F) cc0_stg0_0 (by funext i; fin_cases i <;> rfl) _ a
theorem load1 (a : Vec F S1x512 .i32) : (Memref.whole cc0_stg1_0 : Memref sig .tc .vmem S1x512 .i32).view.readAt (Elt F)
    (Rect.unit (s := S1x512) ![0, 0] S1x512.size inb_S1x512_S1x512_0_0).toLoadRect a = a :=
  Memref.readAt_unit_zero (Elt F) cc0_stg1_0 (by funext i; fin_cases i <;> rfl) _ a
theorem load2 (a : Vec F S512x256 .bf16) : (Memref.whole cc0_stg2_0 : Memref sig .tc .vmem S512x256 .bf16).view.readAt (Elt F)
    (Rect.unit (s := S512x256) ![0, 0] S512x256.size inb_S512x256_S512x256_0_0).toLoadRect a = a :=
  Memref.readAt_unit_zero (Elt F) cc0_stg2_0 (by funext i; fin_cases i <;> rfl) _ a
theorem load5 (a : Gath F) : (Memref.whole cc0_scratch0 : Memref sig .tc .vmem S512x512 .bf16).view.readAt (Elt F)
    (Rect.unit (s := S512x512) ![0, 0] S512x512.size inb_S512x512_S512x512_0_0).toLoadRect a = a :=
  Memref.readAt_unit_zero (Elt F) cc0_scratch0 (by funext i; fin_cases i <;> rfl) _ a
theorem store4 (a w : Vec F S512x512 .f32) : ((Memref.whole cc0_stg4_0 : Memref sig .tc .vmem S512x512 .f32).access
    (Rect.unit (s := S512x512) ![0, 0] S512x512.size inb_S512x512_S512x512_0_0) : View sig .tc _ _ _).write (Elt F) a w Finset.univ = w :=
  Memref.write_access_unit_zero_univ (Elt F) cc0_stg4_0 (by funext i; fin_cases i <;> rfl) _ a w

/-- The store of the own block leaves `G` on it. -/
theorem store5 (c : Dev nD) (f G : Gath F) (w : FVec F S64x512 .bf16) (hG : (blk c).view.read (Elt F) G = w) (i) (hi : i ∈ (blk c).view.set) :
    (((Memref.whole cc0_scratch0 : Memref sig .tc .vmem S512x512 .bf16).access
      (Rect.unit (s := S512x512) (k0_off1 c) S64x512.size (k0_off1_inb c)) : View sig .tc _ _ _).write (Elt F) f w Finset.univ) i = G i := by
  subst hG; exact written c f G i hi

/-! ## The run of the body -/

variable (G : Gath F) (κ : GSem nD τ sig → ℕ) (c : Dev nD) (a0 : Vec F S512x1 .i32) (a1 : Vec F S1x512 .i32) (a2 : Vec F S512x256 .bf16) (a3 : Vec F S2x256x512 .bf16)

/-- What `c` takes from the exchange into the body. -/
def opened : sProp 𝕄 :=
  iprop(known G κ c ∗ atPos ER (barCell c) 0 ∅ 0 ∗ cred (tallyAt (barCell c) () 7) ∗ (bigSep Finset.univ fun k => dutyTok ER (barCell (peer c k)) 0 k)
    ∗ bigSep Finset.univ (dutyT (F := F) c) ∗ bigSep Finset.univ (rcvW (F := F) c))

abbrev pt (b : Ref sig .tc) (f : Buf (Elt F) ((c : Thread nD τ).loc b)) : sProp 𝕄 := ((c : Thread nD τ).loc b) ↦{fullShare} f

def bodyPre (W : Waits sig Unit) : sProp 𝕄 :=
  iprop(opened G κ c ∗ levAts L lv ∗ owes (c : Thread nD τ) (owed 0 0 c) W ∗ (∃ f, pt c cc0_scratch0 f)
    ∗ pt c cc0_stg0_0 a0 ∗ pt c cc0_stg1_0 a1 ∗ pt c cc0_stg2_0 a2 ∗ pt c cc0_stg3_0 a3 ∗ ∃ f, pt c cc0_stg4_0 f)

def bodyPost : sProp 𝕄 :=
  iprop(semVal (barCell c) 0 ∗ sems0 c ∗ idle c ∗ (∃ f, pt c cc0_scratch0 f)
    ∗ pt c cc0_stg0_0 a0 ∗ pt c cc0_stg1_0 a1 ∗ pt c cc0_stg2_0 a2 ∗ pt c cc0_stg3_0 a3 ∗ pt c cc0_stg4_0 (result a0 G))

/-- The tickets for the seven signals: the duties and the peers' blocks. -/
theorem tickets (f : Gath F) : iprop((bigSep Finset.univ fun k => (dutyTok ER (barCell (peer c k)) 0 k : sProp 𝕄)) ∗ bigSep Finset.univ fun k => blkPts c (peer c k) fullShare f)
    ⊢ bigSep (ge 0) (sigT (F := F) c) := by
  rw [ge_zero, ← bigSep_sep']
  refine bigSep_mono fun k _ => show iprop(dutyTok ER (barCell (peer c k)) 0 k ∗ blkPts c (peer c k) fullShare f) ⊢ iprop(dutyTok ER (barCell (peer c k)) 0 k ∗ ∃ f : Gath F, blkPts c (peer c k) fullShare f) from ?_
  iintro ⟨H1, H2⟩
  isplitl [H1]; · iexact H1
  iexists f; iexact H2

/-- The tickets for the seven copies. -/
theorem copies : iprop(bigSep Finset.univ (dutyT (F := F) c) ∗ blkPts c c fullShare G ∗ bigSep Finset.univ (slotT (F := F) c)) ⊢ bigSep (ge 0) (sendT G c) := by
  rw [ge_zero, lend c G, ← bigSep_sep', ← bigSep_sep']
  exact Entails.of_eq (bigSep_congr fun k _ => rfl)

theorem dones : (bigSep (lt ((6 : Fin 7).val + 1)) (sndD G c) : sProp 𝕄) = iprop((bigSep Finset.univ fun k => sndPay G c k) ∗ bigSep Finset.univ fun k => atPos ER (sndCell c k) 1 ∅ 0) := by
  rw [show ((6 : Fin 7).val + 1) = 7 from rfl, lt_seven, ← bigSep_sep']; rfl
theorem arrived : (bigSep (lt ((6 : Fin 7).val + 1)) (rcvD G c) : sProp 𝕄) = iprop((bigSep Finset.univ fun k => rcvPay G c k) ∗ bigSep Finset.univ fun k => atPos ER (rcvCell c k) 1 ∅ 0) := by
  rw [show ((6 : Fin 7).val + 1) = 7 from rfl, lt_seven, ← bigSep_sep']; rfl

set_option maxHeartbeats 4000000 in
theorem body_run (hG : (blk c).view.read (Elt F) G = contrib c a1 a2 a3) (W : Waits sig Unit) (Kt : PUnit → sProp 𝕄) :
    iprop(bodyPre G κ c a0 a1 a2 a3 W ∗ (bodyPost G c a0 a1 a2 a3 -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyPre opened
  iintro ⟨⟨⟨#HK, HatB, HcB, Htok, Hduty, HrW⟩, #Hlev, HO, ⟨%f0, Hg⟩, H0, H1, H2, H3, ⟨%f4, H4⟩⟩, Hk⟩
  -- the loads and the own block
  iapply (wp_load 𝒱₀ (c : Thread nD τ) none Set.univ (m := Memref.whole cc0_stg1_0) (Finset.subset_univ _)) $$ H1; iintro H1
  rw [load1]
  iapply (wp_load 𝒱₀ (c : Thread nD τ) none Set.univ (m := Memref.whole cc0_stg2_0) (Finset.subset_univ _)) $$ H2; iintro H2
  rw [load2]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg2_0) (Finset.subset_univ _)) $$ H2; iintro H2
  rw [load2]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_scratch0) (Finset.subset_univ _)) $$ Hg; iintro Hg
  iapply (wp_store 𝒱₀ (c : Thread nD τ) none Set.univ (m := Memref.whole cc0_scratch0)
    (r := Rect.unit (s := S512x512) (k0_off1 c) S64x512.size (k0_off1_inb c)) (Mk := Finset.univ) (Finset.subset_univ _)) $$ Hg; iintro Hg
  ihave Hb := (Entails.of_eq (blks c _)) $$ Hg
  icases Hb with ⟨Hown, Hpeers⟩
  ihave Hown := (Entails.of_eq (pointsTo_congr fun i hi => store5 c f0 G (contrib c a1 a2 a3) hG i hi)) $$ Hown
  ihave HT := (tickets (F := F) c _) $$ [Htok Hpeers]
  · isplitl [Htok] <;> iassumption
  -- the seven signals
  iapply (signal_step G κ c 0 (W := W) (Fin.ext (k0_dev1_eq c)) 0 (by decide) Kt) $$ [HO HT]
  · isplitr; · iexact HK
    isplitl [HO]; · iexact HO
    iexact HT
  iintro ⟨HO, HT⟩
  iapply (signal_step G κ c 1 (W := W) (Fin.ext (k0_dev2_eq c)) 0 (by decide) Kt) $$ [HO HT]
  · isplitr; · iexact HK
    isplitl [HO]; · iexact HO
    iexact HT
  iintro ⟨HO, HT⟩
  iapply (signal_step G κ c 2 (W := W) (Fin.ext (k0_dev3_eq c)) 0 (by decide) Kt) $$ [HO HT]
  · isplitr; · iexact HK
    isplitl [HO]; · iexact HO
    iexact HT
  iintro ⟨HO, HT⟩
  iapply (signal_step G κ c 3 (W := W) (Fin.ext (k0_dev4_eq c)) 0 (by decide) Kt) $$ [HO HT]
  · isplitr; · iexact HK
    isplitl [HO]; · iexact HO
    iexact HT
  iintro ⟨HO, HT⟩
  iapply (signal_step G κ c 4 (W := W) (Fin.ext (k0_dev5_eq c)) 0 (by decide) Kt) $$ [HO HT]
  · isplitr; · iexact HK
    isplitl [HO]; · iexact HO
    iexact HT
  iintro ⟨HO, HT⟩
  iapply (signal_step G κ c 5 (W := W) (Fin.ext (k0_dev6_eq c)) 0 (by decide) Kt) $$ [HO HT]
  · isplitr; · iexact HK
    isplitl [HO]; · iexact HO
    iexact HT
  iintro ⟨HO, HT⟩
  iapply (signal_step G κ c 6 (W := W) (Fin.ext (k0_dev7_eq c)) 0 (by decide) Kt) $$ [HO HT]
  · isplitr; · iexact HK
    isplitl [HO]; · iexact HO
    iexact HT
  iintro ⟨HO, HT⟩
  -- the barrier
  iapply (barrier_step G κ c (W := W) (by decide) Kt) $$ [HcB HO HatB]
  · isplitr; · iexact HK
    isplitr; · iexact Hlev
    isplitl [HcB]; · iexact HcB
    isplitl [HO]; · iexact HO
    iexact HatB
  iintro ⟨⟨%W2, HO⟩, HatB, Hslots⟩
  ihave HS := (copies G c) $$ [Hduty Hown Hslots]
  · isplitl [Hduty]; · iexact Hduty
    isplitl [Hown] <;> iassumption
  ihave HD := (show (iprop(emp) : sProp 𝕄) ⊢ bigSep (lt 0) (sndW (F := F) c) from by rw [lt_zero, bigSep_empty]; exact BI.Entails.refl _) $$ []
  · iempintro
  -- the seven copies
  iapply (send_step G κ c 0 (W := W2) (Fin.ext (k0_dev8_eq c)) rfl rfl Kt) $$ [HO HS HD]
  · isplitr; · iexact HK
    isplitl [HO]; · iexact HO
    isplitl [HS]; · iexact HS
    iexact HD
  iintro ⟨HO, HS, HD⟩
  iapply (send_step G κ c 1 (W := W2) (Fin.ext (k0_dev9_eq c)) rfl rfl Kt) $$ [HO HS HD]
  · isplitr; · iexact HK
    isplitl [HO]; · iexact HO
    isplitl [HS]; · iexact HS
    iexact HD
  iintro ⟨HO, HS, HD⟩
  iapply (send_step G κ c 2 (W := W2) (Fin.ext (k0_dev10_eq c)) rfl rfl Kt) $$ [HO HS HD]
  · isplitr; · iexact HK
    isplitl [HO]; · iexact HO
    isplitl [HS]; · iexact HS
    iexact HD
  iintro ⟨HO, HS, HD⟩
  iapply (send_step G κ c 3 (W := W2) (Fin.ext (k0_dev11_eq c)) rfl rfl Kt) $$ [HO HS HD]
  · isplitr; · iexact HK
    isplitl [HO]; · iexact HO
    isplitl [HS]; · iexact HS
    iexact HD
  iintro ⟨HO, HS, HD⟩
  iapply (send_step G κ c 4 (W := W2) (Fin.ext (k0_dev12_eq c)) rfl rfl Kt) $$ [HO HS HD]
  · isplitr; · iexact HK
    isplitl [HO]; · iexact HO
    isplitl [HS]; · iexact HS
    iexact HD
  iintro ⟨HO, HS, HD⟩
  iapply (send_step G κ c 5 (W := W2) (Fin.ext (k0_dev13_eq c)) rfl rfl Kt) $$ [HO HS HD]
  · isplitr; · iexact HK
    isplitl [HO]; · iexact HO
    isplitl [HS]; · iexact HS
    iexact HD
  iintro ⟨HO, HS, HD⟩
  iapply (send_step G κ c 6 (W := W2) (Fin.ext (k0_dev14_eq c)) rfl rfl Kt) $$ [HO HS HD]
  · isplitr; · iexact HK
    isplitl [HO]; · iexact HO
    isplitl [HS]; · iexact HS
    iexact HD
  iintro ⟨HO, HS, HD⟩
  iapply (wp_load 𝒱₀ (c : Thread nD τ) none Set.univ (m := Memref.whole cc0_stg0_0) (Finset.subset_univ _)) $$ H0; iintro H0
  rw [load0]
  ihave HI := (show (owes (c : Thread nD τ) (owed 7 ((6 : Fin 7).val + 1) c) W2 : sProp 𝕄) ⊢ idle c from by
    rw [show ((6 : Fin 7).val + 1) = 7 from rfl, owed_done]; unfold idle; iintro H; iexists W2; iexact H) $$ HO
  ihave HSW := (show (bigSep (lt ((6 : Fin 7).val + 1)) (sndW (F := F) c) : sProp 𝕄) ⊢ bigSep (ge 0) (sndW (F := F) c) from by rw [show ((6 : Fin 7).val + 1) = 7 from rfl, lt_seven, ge_zero]) $$ HD
  ihave HRW := (show (bigSep Finset.univ (rcvW (F := F) c) : sProp 𝕄) ⊢ bigSep (ge 0) (rcvW (F := F) c) from by rw [ge_zero]) $$ HrW
  ihave HSD := (show (iprop(emp) : sProp 𝕄) ⊢ bigSep (lt 0) (sndD G c) from by rw [lt_zero, bigSep_empty]; exact BI.Entails.refl _) $$ []
  · iempintro
  ihave HRD := (show (iprop(emp) : sProp 𝕄) ⊢ bigSep (lt 0) (rcvD G c) from by rw [lt_zero, bigSep_empty]; exact BI.Entails.refl _) $$ []
  · iempintro
  -- the fourteen waits
  iapply (waitSnd_step G κ c 0 rfl Kt) $$ [HI HSW HSD]
  · isplitr; · iexact HK
    isplitl [HI]; · iexact HI
    isplitl [HSW]; · iexact HSW
    iexact HSD
  iintro ⟨HI, HSW, HSD⟩
  iapply (waitRcv_step G κ c 0 rfl Kt) $$ [HI HRW HRD]
  · isplitr; · iexact HK
    isplitl [HI]; · iexact HI
    isplitl [HRW]; · iexact HRW
    iexact HRD
  iintro ⟨HI, HRW, HRD⟩
  iapply (waitSnd_step G κ c 1 rfl Kt) $$ [HI HSW HSD]
  · isplitr; · iexact HK
    isplitl [HI]; · iexact HI
    isplitl [HSW]; · iexact HSW
    iexact HSD
  iintro ⟨HI, HSW, HSD⟩
  iapply (waitRcv_step G κ c 1 rfl Kt) $$ [HI HRW HRD]
  · isplitr; · iexact HK
    isplitl [HI]; · iexact HI
    isplitl [HRW]; · iexact HRW
    iexact HRD
  iintro ⟨HI, HRW, HRD⟩
  iapply (waitSnd_step G κ c 2 rfl Kt) $$ [HI HSW HSD]
  · isplitr; · iexact HK
    isplitl [HI]; · iexact HI
    isplitl [HSW]; · iexact HSW
    iexact HSD
  iintro ⟨HI, HSW, HSD⟩
  iapply (waitRcv_step G κ c 2 rfl Kt) $$ [HI HRW HRD]
  · isplitr; · iexact HK
    isplitl [HI]; · iexact HI
    isplitl [HRW]; · iexact HRW
    iexact HRD
  iintro ⟨HI, HRW, HRD⟩
  iapply (waitSnd_step G κ c 3 rfl Kt) $$ [HI HSW HSD]
  · isplitr; · iexact HK
    isplitl [HI]; · iexact HI
    isplitl [HSW]; · iexact HSW
    iexact HSD
  iintro ⟨HI, HSW, HSD⟩
  iapply (waitRcv_step G κ c 3 rfl Kt) $$ [HI HRW HRD]
  · isplitr; · iexact HK
    isplitl [HI]; · iexact HI
    isplitl [HRW]; · iexact HRW
    iexact HRD
  iintro ⟨HI, HRW, HRD⟩
  iapply (waitSnd_step G κ c 4 rfl Kt) $$ [HI HSW HSD]
  · isplitr; · iexact HK
    isplitl [HI]; · iexact HI
    isplitl [HSW]; · iexact HSW
    iexact HSD
  iintro ⟨HI, HSW, HSD⟩
  iapply (waitRcv_step G κ c 4 rfl Kt) $$ [HI HRW HRD]
  · isplitr; · iexact HK
    isplitl [HI]; · iexact HI
    isplitl [HRW]; · iexact HRW
    iexact HRD
  iintro ⟨HI, HRW, HRD⟩
  iapply (waitSnd_step G κ c 5 rfl Kt) $$ [HI HSW HSD]
  · isplitr; · iexact HK
    isplitl [HI]; · iexact HI
    isplitl [HSW]; · iexact HSW
    iexact HSD
  iintro ⟨HI, HSW, HSD⟩
  iapply (waitRcv_step G κ c 5 rfl Kt) $$ [HI HRW HRD]
  · isplitr; · iexact HK
    isplitl [HI]; · iexact HI
    isplitl [HRW]; · iexact HRW
    iexact HRD
  iintro ⟨HI, HRW, HRD⟩
  iapply (waitSnd_step G κ c 6 rfl Kt) $$ [HI HSW HSD]
  · isplitr; · iexact HK
    isplitl [HI]; · iexact HI
    isplitl [HSW]; · iexact HSW
    iexact HSD
  iintro ⟨HI, HSW, HSD⟩
  iapply (waitRcv_step G κ c 6 rfl Kt) $$ [HI HRW HRD]
  · isplitr; · iexact HK
    isplitl [HI]; · iexact HI
    isplitl [HRW]; · iexact HRW
    iexact HRD
  iintro ⟨HI, HRW, HRD⟩
  -- the gathered buffer whole, the result
  ihave HS := (Entails.of_eq (dones G c)) $$ HSD
  icases HS with ⟨Hmine, HatS⟩
  ihave HR := (Entails.of_eq (arrived G c)) $$ HRD
  icases HR with ⟨Htheirs, HatR⟩
  ihave Hg := (gather G c) $$ [Hmine Htheirs]
  · isplitl [Hmine] <;> iassumption
  iapply (wp_load 𝒱₀ (c : Thread nD τ) none Set.univ (m := Memref.whole cc0_scratch0) (Finset.subset_univ _)) $$ Hg; iintro Hg
  rw [load5]
  iapply (wp_load 𝒱₀ (c : Thread nD τ) none Set.univ (m := Memref.whole cc0_stg4_0) (Finset.subset_univ _)) $$ H4; iintro H4
  iapply (wp_store 𝒱₀ (c : Thread nD τ) none Set.univ (m := Memref.whole cc0_stg4_0)
    (r := Rect.unit (s := S512x512) ![0, 0] S512x512.size inb_S512x512_S512x512_0_0) (Mk := Finset.univ) (Finset.subset_univ _)) $$ H4; iintro H4
  rw [store4]
  -- the cells closed
  ihave #HR := (known_records G κ c) $$ HK
  rw [wp_ret]
  imod (close_cell G (κ (barCell c)) (barCell c)) $$ [HatB] with Hz
  · isplitr; · iapply (records_bar G κ c); iexact HR
    iexact HatB
  imod (close_snd G κ c) $$ [HatS] with HzS
  · isplitr; · iexact HR
    iexact HatS
  imod (close_rcv G κ c) $$ [HatR] with HzR
  · isplitr; · iexact HR
    iexact HatR
  imodintro
  iapply Hk
  unfold bodyPost sems0
  isplitl [Hz]; · iexact Hz
  isplitl [HzS HzR]
  · isplitl [HzS] <;> iassumption
  isplitl [HI]; · iexact HI
  isplitl [Hg]; · iexists G; iexact Hg
  isplitl [H0]; · iexact H0
  isplitl [H1]; · iexact H1
  isplitl [H2]; · iexact H2
  isplitl [H3]; · iexact H3
  iexact H4

end Cert.Exchange

end
-- ==== Proof.Region.lean ====
/-
  The kernel's region on every device: what its arrays hold before and after, the gathered buffer that all devices
  share, what a device brings into the region from the launch and what it leaves.
-/
module

public import proofs.«01_k».proof.Proof.Body
public import Idealize.ShloMosaic.Lib.Pipeline.FrameSuffix
public import Idealize.ShloMosaic.Lib.Pipeline.ValueKit

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The values -/

/-- The expert numbers, as a column and as a row, the tokens and the weights, as device `c` finds them staged. -/
abbrev col (c : Dev nD) : Vec F S512x1 .i32 := iblk m c 0 t0_0
abbrev row (c : Dev nD) : Vec F S1x512 .i32 := iblk m c 1 t0_0
abbrev toks (c : Dev nD) : Vec F S512x256 .bf16 := iblk m c 2 t0_0
abbrev wts (c : Dev nD) : Vec F S2x256x512 .bf16 := iblk m c 3 t0_0

/-- The gathered buffer: rows `64 d` to `64 d + 63` are the block of device `d`. -/
def gathered : Gath F := fun i =>
  contrib (F := F) ⟨(i 0).val / 64, by have h : (i 0).val < 512 := (i 0).isLt; show _ < 8; omega⟩
    (row m ⟨(i 0).val / 64, by have h : (i 0).val < 512 := (i 0).isLt; show _ < 8; omega⟩)
    (toks m ⟨(i 0).val / 64, by have h : (i 0).val < 512 := (i 0).isLt; show _ < 8; omega⟩)
    (wts m ⟨(i 0).val / 64, by have h : (i 0).val < 512 := (i 0).isLt; show _ < 8; omega⟩)
    (fun a => match a with | ⟨0, _⟩ => (⟨(i 0).val % 64, Nat.mod_lt _ (by decide)⟩ : Fin 64) | ⟨1, _⟩ => (i 1 : Fin 512))

theorem blk_row (c : Dev nD) (j : S64x512.Idx) : ((blk c).view.emb j 0).val = 64 * c.val + (j 0).val := by
  have h : ∀ c : Dev nD, (k0_off2 c) 0 = 64 * c.val := by decide
  show (k0_off2 c) 0 + 1 * (j 0).val = _
  rw [h c]; omega
theorem blk_col (c : Dev nD) (j : S64x512.Idx) : ((blk c).view.emb j 1).val = (j 1).val := by
  have h : ∀ c : Dev nD, (k0_off2 c) 1 = 0 := by decide
  show (k0_off2 c) 1 + 1 * (j 1).val = _
  rw [h c]; omega

/-- Block `c` of the gathered buffer is what device `c` computes. -/
theorem gathered_blk (c : Dev nD) : (blk c).view.read (Elt F) (gathered m) = contrib c (row m c) (toks m c) (wts m c) := by
  funext j
  have hj : (j 0).val < 64 := (j 0).isLt
  have h0 := blk_row c j
  have h1 := blk_col c j
  have hd : ∀ h, (⟨((blk c).view.emb j 0).val / 64, h⟩ : Dev nD) = c := fun h => Fin.ext (by show ((blk c).view.emb j 0).val / 64 = c.val; rw [h0]; omega)
  show gathered m ((blk c).view.emb j) = _
  unfold gathered
  rw [hd]
  refine congrArg _ (funext fun a => ?_)
  match a with
  | ⟨0, _⟩ => exact Fin.ext (by show ((blk c).view.emb j 0).val % 64 = (j 0).val; rw [h0]; omega)
  | ⟨1, _⟩ => exact Fin.ext h1

/-! ## The region's data -/

/-- The tally a device owes at launch: a signal to every other device, a copy to every other device. -/
abbrev O₀ (c : Dev nD) : CellTallies nD τ sig Unit := owed 0 0 c

/-- What enters the region from the launch, the cells open. -/
def Xk (c : Dev nD) : sProp 𝕄 := iprop((∃ κ, opened (gathered m) κ c) ∗ levAts L lv)
/-- What the region gives back beside its own semaphores. -/
def Yk (c : Dev nD) : sProp 𝕄 := semVal (barCell c) 0
abbrev slotAny (c : Dev nD) : sProp 𝕄 := iprop(∃ f : Buf (Elt F) ((c : Thread nD τ).loc cc0_scratch0), pt c cc0_scratch0 f)

def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result (col m c) (gathered m)
  Φ t := if t.val = 0 then iprop(Xk m c ∗ slotAny c ∗ ∃ r, prngReg c r) else iprop(Yk c ∗ sems0 c ∗ slotAny c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat (F := F) m c).owed t0_0.castSucc = O₀ c := by
  show (if (t0_0.castSucc : Fin (cfg0.N + 1)).val = 0 then O₀ c else 0) = O₀ c; exact if_pos rfl
theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owesAt_in (c : Dev nD) (t : Fin (cfg0.N + 1)) (O : CellTallies nD τ sig Unit) (h0 : (dat (F := F) m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owesAt_out (c : Dev nD) (t : Fin (cfg0.N + 1)) (O : CellTallies nD τ sig Unit) (h0 : (dat (F := F) m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem before0 (c : Dev nD) (d) : (dat m c).before 0 t0_0 d = iblk m c 0 t0_0 := by unfold Dat.before; rw [if_pos (fetch0_0 t0_0)]; rfl
theorem before1 (c : Dev nD) (d) : (dat m c).before 1 t0_0 d = iblk m c 1 t0_0 := by unfold Dat.before; rw [if_pos (fetch0_1 t0_0)]; rfl
theorem before2 (c : Dev nD) (d) : (dat m c).before 2 t0_0 d = iblk m c 2 t0_0 := by unfold Dat.before; rw [if_pos (fetch0_2 t0_0)]; rfl
theorem before3 (c : Dev nD) (d) : (dat m c).before 3 t0_0 d = iblk m c 3 t0_0 := by unfold Dat.before; rw [if_pos (fetch0_3 t0_0)]; rfl

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt c b f) := by
  unfold owns; simp only [Memref.view_whole, View.read_whole, View.set_whole]

/-- The body takes the region's first state to its last. -/
theorem body_ok (c : Dev nD) : BodyObligation (dat (F := F) m c) (defs₀ (F := F)) 𝒱₀ () Set.univ := fun t => by
  obtain rfl := fin_N0 t
  rw [bigSep_W0, bigSep_W0]
  simp only [owns_whole]
  rw [show (dat m c).Φ t0_0.castSucc = iprop(Xk m c ∗ slotAny c ∗ ∃ r, prngReg c r) from rfl,
    show (dat m c).Φ t0_0.succ = iprop(Yk c ∗ sems0 c ∗ slotAny c ∗ ∃ r, prngReg c r) from rfl]
  unfold Xk Yk
  iintro ⟨⟨⟨⟨%κ, Hop⟩, #Hlev⟩, Hs, Hreg⟩, HO, ⟨%d0, %f0, %h0, H0⟩, ⟨%d1, %f1, %h1, H1⟩, ⟨%d2, %f2, %h2, H2⟩, ⟨%d3, %f3, %h3, H3⟩, ⟨%d4, %f4, %h4, H4⟩⟩
  rw [before0] at h0; rw [before1] at h1; rw [before2] at h2; rw [before3] at h3
  subst h0 h1 h2 h3
  ihave HO' := (owesAt_out m c _ (O₀ c) (owed_first m c)) $$ HO
  icases HO' with ⟨%W, HO⟩
  iapply (body_run (gathered m) κ c (col m c) (row m c) (toks m c) (wts m c) (gathered_blk m c) W _)
  isplitl [Hop Hs HO H0 H1 H2 H3 H4]
  · unfold bodyPre
    isplitl [Hop]; · iexact Hop
    isplitr; · iexact Hlev
    isplitl [HO]; · iexact HO
    isplitl [Hs]; · iexact Hs
    isplitl [H0]; · iexact H0
    isplitl [H1]; · iexact H1
    isplitl [H2]; · iexact H2
    isplitl [H3]; · iexact H3
    iexists f4; iexact H4
  unfold bodyPost idle
  iintro ⟨Hb, Hss, ⟨%W', HO⟩, Hs, H0, H1, H2, H3, H4⟩
  isplitl [Hb Hss Hs Hreg]
  · isplitl [Hb]; · iexact Hb
    isplitl [Hss]; · iexact Hss
    isplitl [Hs]; · iexact Hs
    iexact Hreg
  isplitl [HO]; · iapply (owesAt_in m c t0_0.succ 0 (owed_last m c) W'); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4); ipureintro; rfl

end Cert.Exchange

end
-- ==== Proof.Launch.lean ====
/-
  The launch: every cell's record made, the barrier cells open and the transfer cells to be opened by their owner at
  the region's entry, every duty's ticket dealt to the device that pays it; then the run of the whole program.
-/
module

public import proofs.«01_k».proof.Proof.Region
public import Idealize.ShloMosaic.Harness.Basic

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers outside the region -/

def bufs : Finset (DevRef τ sig) := (StableHlo.tcRefs τ sig).filter fun b => ¬ b.isScoped

theorem unscoped_bufs (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem held_bufs (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3)
      ∗ pt c main_v1 (W main_v1) ∗ pt c main_v2 (W main_v2)) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2] (by decide) (by decide)]
  rfl

/-- The buffers at launch, before the region, after the region. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Pipeline.withArrays spec0 c (V₁ m c) (fun w => (dat m c).arrAt w cfg0.N)

theorem V₂_arr (c : Dev nD) (w : Fin cfg0.W) : V₂ m c (Proc.devRef .tc (Pipeline.arrRef spec0 w)) = (dat m c).arrAt w cfg0.N :=
  Pipeline.withArrays_arr spec0 winFacts0.arr_inj c _ _ w
theorem V₂_arg0 (c : Dev nD) : V₂ m c main_arg0 = m ((c : Thread nD τ).loc main_arg0) :=
  (V₂_arr m c 2).trans (((dat m c).arrAt_in 2 rfl _).trans (V_main_arg0 m c))
theorem V₂_arg1 (c : Dev nD) : V₂ m c main_arg1 = m ((c : Thread nD τ).loc main_arg1) :=
  (Pipeline.withArrays_of_ne spec0 c _ _ main_arg1 (by decide)).trans (V_main_arg1 m c)
theorem V₂_arg2 (c : Dev nD) : V₂ m c main_arg2 = m ((c : Thread nD τ).loc main_arg2) :=
  (V₂_arr m c 0).trans (((dat m c).arrAt_in 0 rfl _).trans (V_main_arg2 m c))
theorem V₂_arg3 (c : Dev nD) : V₂ m c main_arg3 = m ((c : Thread nD τ).loc main_arg3) :=
  (V₂_arr m c 3).trans (((dat m c).arrAt_in 3 rfl _).trans (V_main_arg3 m c))
theorem V₂_out (c : Dev nD) : V₂ m c main_v2 = result (col m c) (gathered m) := by
  refine (V₂_arr m c 4).trans ?_
  refine (dat m c).arrAt_eq_of_after_last 4 t0_0 (by decide +kernel) _ fun j => ?_
  exact congrArg (result (col m c) (gathered m)) (by blk_simp)

/-! ## The region's own semaphores -/

/-- Own semaphore `(0, k)` is the send semaphore of step `k`, `(1, k)` its receive semaphore. -/
def osem (p : Fin 2 × Fin 7) : SemLoc sig := match p.1 with
  | ⟨0, _⟩ => .dma (sndS p.2)
  | ⟨1, _⟩ => .dma (rcvS p.2)

/-- Two families over the steps, as one over the own semaphores. -/
theorem bigSep_own (Φ : Fin 2 × Fin 7 → sProp 𝕄) :
    bigSep Finset.univ Φ = iprop((bigSep Finset.univ fun k => Φ (0, k)) ∗ bigSep Finset.univ fun k => Φ (1, k)) := by
  rw [BI.bigSep_univ_prod, BI.bigSep_fin_two]; rfl

theorem own_sems (c : Dev nD) : (Pipeline.ownSems0 osem c : sProp 𝕄) = sems0 c :=
  bigSep_own (fun p : Fin 2 × Fin 7 => (semVal ((c : Thread nD τ), osem p) 0 : sProp 𝕄))

/-! ## What a device carries from the launch to the region -/

/-- With the records `κ`: the position at its barrier cell, the rights to open its transfer cells, the credits of what
    the others owe it, the tickets of what it owes. -/
def linear (c : Dev nD) : sProp 𝕄 :=
  iprop(atPos ER (barCell c) 0 ∅ 0
    ∗ ((bigSep Finset.univ fun k => openTok ER (sndCell c k)) ∗ bigSep Finset.univ fun k => openTok ER (rcvCell c k))
    ∗ (bigSep Finset.univ fun k => dutyTok ER (barCell (peer c k)) 0 k)
    ∗ (bigSep Finset.univ fun k => dutyTok ER (sndCell c k) 0 0)
    ∗ bigSep Finset.univ fun k => dutyTok ER (rcvCell (peer c k) k) 0 0)
def credits (c : Dev nD) : sProp 𝕄 :=
  iprop(cred (tallyAt (barCell c) () 7) ∗ bigSep Finset.univ fun k => cred (tallyAt (rcvCell c k) () N))
def Tk (c : Dev nD) : sProp 𝕄 := iprop((∃ κ, records (gathered m) κ ∗ linear c) ∗ credits c)

/-- Two families are one family of pairs, and back. -/
theorem both {I : Type} [Fintype I] (Φ Ψ : I → sProp 𝕄) : iprop(bigSep Finset.univ Φ ∗ bigSep Finset.univ Ψ) ⊢ bigSep Finset.univ fun i => iprop(Φ i ∗ Ψ i) :=
  Entails.of_eq (bigSep_sep' _ _ _).symm
theorem each {I : Type} [Fintype I] (Φ Ψ : I → sProp 𝕄) : (bigSep Finset.univ fun i => iprop(Φ i ∗ Ψ i)) ⊢ iprop(bigSep Finset.univ Φ ∗ bigSep Finset.univ Ψ) :=
  Entails.of_eq (bigSep_sep' _ _ _)

theorem open_snd (G : Gath F) (κ : GSem nD τ sig → ℕ) (c : Dev nD) :
    iprop(records G κ ∗ bigSep Finset.univ fun k => iprop(openTok ER (sndCell c k) ∗ semVal (sndCell c k) 0))
      ⊢ (|={Set.univ}=> bigSep Finset.univ fun k => iprop(atPos ER (sndCell c k) 0 ∅ 0 ∗ reached ER (sndCell c k) 0) : sProp 𝕄) :=
  (bigSep_with_persistent (R := records G κ) fun k _ => (sep_mono_left (records_snd G κ c k)).trans (Rounds.cell_open ER (rd G) (Set.mem_univ _))).trans
    (bigSep_fupd _ _)
theorem open_rcv (G : Gath F) (κ : GSem nD τ sig → ℕ) (c : Dev nD) :
    iprop(records G κ ∗ bigSep Finset.univ fun k => iprop(openTok ER (rcvCell c k) ∗ semVal (rcvCell c k) 0))
      ⊢ (|={Set.univ}=> bigSep Finset.univ fun k => iprop(atPos ER (rcvCell c k) 0 ∅ 0 ∗ reached ER (rcvCell c k) 0) : sProp 𝕄) :=
  (bigSep_with_persistent (R := records G κ) fun k _ => (sep_mono_left (records_rcv G κ c k)).trans (Rounds.cell_open ER (rd G) (Set.mem_univ _))).trans
    (bigSep_fupd _ _)

theorem duties_dealt (c : Dev nD) :
    iprop((bigSep Finset.univ fun k => (dutyTok ER (sndCell c k) 0 0 : sProp 𝕄)) ∗ (bigSep Finset.univ fun k => dutyTok ER (rcvCell (peer c k) k) 0 0)
      ∗ bigSep Finset.univ fun k => atPos ER (sndCell c k) 0 ∅ 0) ⊢ bigSep Finset.univ (dutyT (F := F) c) := by
  unfold dutyT
  rw [bigSep_sep', bigSep_sep']
  iintro ⟨H1, H2, H3⟩
  isplitl [H2]; · iexact H2
  isplitl [H1] <;> iassumption
theorem waits_dealt (c : Dev nD) :
    iprop((bigSep Finset.univ fun k => (cred (tallyAt (rcvCell c k) () N) : sProp 𝕄)) ∗ bigSep Finset.univ fun k => atPos ER (rcvCell c k) 0 ∅ 0)
      ⊢ bigSep Finset.univ (rcvW (F := F) c) := by
  unfold rcvW
  rw [bigSep_sep']

/-- The transfer cells opened at the region's entry. -/
theorem region_open (c : Dev nD) : iprop(Tk m c ∗ Pipeline.ownSems0 osem c ∗ levAts L lv) ⊢ (|={Set.univ}=> Xk m c : sProp 𝕄) := by
  rw [own_sems]
  unfold Tk Xk linear credits sems0
  iintro ⟨⟨⟨%κ, #HR, HatB, ⟨HoS, HoV⟩, HtB, HtS, HtV⟩, HcB, HcV⟩, ⟨Hs0, Hv0⟩, #Hlev⟩
  imod (open_snd (gathered m) κ c) $$ [HoS Hs0] with HS
  · isplitr; · iexact HR
    iapply (both (F := F) _ _)
    isplitl [HoS] <;> iassumption
  imod (open_rcv (gathered m) κ c) $$ [HoV Hv0] with HV
  · isplitr; · iexact HR
    iapply (both (F := F) _ _)
    isplitl [HoV] <;> iassumption
  ihave HS := (each (F := F) _ _) $$ HS; icases HS with ⟨HatS, #HrS⟩
  ihave HV := (each (F := F) _ _) $$ HV; icases HV with ⟨HatV, #HrV⟩
  imodintro
  isplitr []
  · iexists κ; unfold opened known
    isplitr
    · isplitr; · iexact HR
      isplitr; · iexact HrS
      iexact HrV
    isplitl [HatB]; · iexact HatB
    isplitl [HcB]; · iexact HcB
    isplitl [HtB]; · iexact HtB
    isplitl [HtS HtV HatS]
    · iapply (duties_dealt (F := F) c)
      isplitl [HtS]; · iexact HtS
      isplitl [HtV] <;> iassumption
    iapply (waits_dealt (F := F) c)
    isplitl [HcV] <;> iassumption
  iexact Hlev

/-! ## The two segments -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact owed_level h
  · exact absurd h (Nat.lt_irrefl 0)

theorem region_in (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = iprop(Xk m c ∗ slotAny c ∗ ∃ r, prngReg c r) from rfl]
  rw [show Pipeline.scopedRest (Pipeline.pin (pcfgs (F := F)) adm 0).spec c = slotAny (F := F) c from scopedRest0_eq c]
  iintro ⟨Hs, Hp, -, HX⟩
  isplitl [HX]; · iexact HX
  isplitl [Hs]; · iexact Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = iprop(Yk c ∗ sems0 c ∗ slotAny c ∗ ∃ r, prngReg c r) from rfl]
  rw [show Pipeline.scopedRest (Pipeline.pin (pcfgs (F := F)) adm 0).spec c = slotAny (F := F) c from scopedRest0_eq c, own_sems,
    show (StableHlo.held (c.tc : Thread nD τ) ∅ (V₂ m c) : sProp 𝕄) = iprop(emp) from BI.bigSep_empty]
  iintro ⟨HY, Hss, Hs, Hp⟩
  isplitl [Hs]; · iexact Hs
  isplitl [Hp]; · iexact Hp
  isplitr; · iempintro
  isplitl [Hss]; · iexact Hss
  iexact HY

/-- The buffers that the region's pipeline does not stage. -/
abbrev Sr : Finset (DevRef τ sig) := bufs \ Pipeline.arrRefs (τ := τ) spec0

theorem arr_bufs : Pipeline.arrRefs (τ := τ) spec0 ⊆ bufs := by decide

theorem rest_same (c : Dev nD) : ∀ b ∈ Sr \ ∅, V₂ m c b = V₁ m c b := fun b hb => by
  rw [show (Sr \ ∅ : Finset (DevRef τ sig)) = {Proc.devRef .tc main_arg1} from by decide, Finset.mem_singleton] at hb
  subst hb
  exact Pipeline.withArrays_of_ne spec0 c _ _ main_arg1 (by decide)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ Sr (Finset.empty_subset _) kitP rfl (fun c => (body_ok m c).loose)
    (fun _ => 0) O₀ (fun c => (owed_zero m c).trans (zero_add _).symm) (owed_last m) (fun _ => rfl)
    (fun c w => by unfold Dat.share; split <;> rfl)
    (V₁ m) (V₂ m) (rest_same m)
    (Tk m) Yk (Xk m) Yk (region_open m) (region_in m) (region_out m)
    (fun c => by iintro H; imodintro; iexact H)
    (fun _ => 0)
    ⟨fun c w s => by rw [L_tc]; exact Finset.mem_singleton_self _, fun c w s => by fin_cases w <;> fin_cases s <;> exact Nat.le_refl 0, fun c t g i h => owed_above m c t g i h⟩
    (fun _ => iprop(emp))
    (fun _ _ => rfl) (fun c w => (V₂_arr m c w).symm)

/-- What rides beside the buffers. -/
def R (c : Dev nD) : sProp 𝕄 := iprop(Tk m c ∗ (∃ r, prngReg c r) ∗ ∃ W, owes (c : Thread nD τ) (O₀ c) W)

theorem ops_sub : ∀ op ∈ (hostOps0 : List (HloOp τ sig (Elt F))), op.bufs ⊆ bufs := fun op h => by
  simp only [List.mem_singleton] at h; subst h
  show ({Proc.devRef .tc main_arg2, Proc.devRef .tc main_v1} : Finset (DevRef τ sig)) ⊆ bufs; decide

def host : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (R m)

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) Sr (V₁ m c) ∗ emp) ∗ Tk m c ∗ ∃ Wd, owes (c : Thread nD τ) (0 + O₀ c) Wd)
  rw [zero_add, StableHlo.held_sub_split (c : Thread nD τ) arr_bufs (V₁ m c)]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

/-- A device's state at the end. -/
abbrev Tₙ (c : Dev nD) : sProp 𝕄 := iprop(StableHlo.held (c : Thread nD τ) bufs (V₂ m c) ∗ semVal (barCell c) 0)

theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) Sr (V₂ m c) ∗ emp) ∗ Yk c ∗ ∃ Wd, owes (c : Thread nD τ) (0 : CellTallies nD τ sig Unit) Wd) ⊢ _
  unfold Tₙ Yk
  rw [StableHlo.held_sub_split (c : Thread nD τ) arr_bufs (V₂ m c)]
  iintro ⟨Ha, -, ⟨Hh, -⟩, Hb, HO⟩
  isplitr [HO]
  · isplitl [Ha Hh]
    · isplitl [Ha] <;> iassumption
    iexact Hb
  iexact HO

def segs : List (Pipeline.Seg (pcfgs (F := F)) adm (pdats m) () defs₀ 𝒱₀ L lv) := [.host (host m), .region (reg m)]

theorem main_eq (c : Dev nD) : main (F := F) c = Pipeline.Seg.run (segs m) :=
  main_segs adm (pdats m) () 𝒱₀ L lv (host m) (reg m) rfl c

end Cert.Exchange

end
-- ==== Proof.Run.lean ====
/-
  The run of the whole program: what is made at launch, how it is dealt, and what every execution leaves — the
  arguments as they were, the result of every device, every semaphore at zero.
-/
module

public import proofs.«01_k».proof.Proof.Launch

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tickets made at launch -/

theorem osem_inj : Function.Injective osem := by decide
theorem osem_bar : ∀ p, osem p ≠ .reg barS := by decide

def barEmb : Dev nD ↪ GSem nD τ sig := ⟨fun c => barCell c, fun _ _ h => congrArg (fun g : GSem nD τ sig => g.1.1) h⟩
def ownEmb : Dev nD × (Fin 2 × Fin 7) ↪ GSem nD τ sig :=
  ⟨fun x => ((x.1 : Thread nD τ), osem x.2), fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

/-- Of each step, on each device: the barrier duty, the send duty, the receive duty. -/
def ticket (p : Fin 3 × Fin 7) : SemLoc sig × Fin 7 := match p.1 with
  | ⟨0, _⟩ => (.reg barS, p.2)
  | ⟨1, _⟩ => (.dma (sndS p.2), 0)
  | ⟨2, _⟩ => (.dma (rcvS p.2), 0)
theorem ticket_inj : Function.Injective ticket := by decide
def tickEmb : Dev nD × (Fin 3 × Fin 7) ↪ GSem nD τ sig × ℕ × Fin 7 :=
  ⟨fun x => (((x.1 : Thread nD τ), (ticket x.2).1), 0, (ticket x.2).2), fun _ _ h =>
    Prod.ext (congrArg (fun t : GSem nD τ sig × ℕ × Fin 7 => t.1.1.1) h)
      (ticket_inj (Prod.ext (congrArg (fun t : GSem nD τ sig × ℕ × Fin 7 => t.1.2) h) (congrArg (fun t : GSem nD τ sig × ℕ × Fin 7 => t.2.2) h)))⟩
abbrev tickets₀ : Finset (GSem nD τ sig × ℕ × Fin 7) := Finset.univ.map tickEmb

theorem cells_disjoint : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_bar x.2 (congrArg Prod.snd h)

/-- The launch element. -/
def u₀ : UU :=
  (initOf (Pipeline.cells (Pipeline.pin (pcfgs (F := F)) adm) cellOf_inj) (Pipeline.launchToks (Pipeline.pin (pcfgs (F := F)) adm) cellOf_inj),
    launchOf barCells ownCells tickets₀)

/-- The exchange's part of it, kept whole by device 0 until it is dealt. -/
def parcel (c : Dev nD) : sProp 𝕄 := if c = 0 then BI.own (ER (launchOf barCells ownCells tickets₀)) else iprop(emp)
theorem parcel_all : bigSep Finset.univ (parcel (F := F)) = BI.own (ER (launchOf barCells ownCells tickets₀)) := by
  rw [bigSep_univ_at _ (0 : Dev nD), bigSep_congr (s := Finset.univ.erase (0 : Dev nD)) (Ψ := fun _ => (BI.emp : sProp 𝕄))
      fun c hc => by unfold parcel; rw [if_neg (Finset.ne_of_mem_erase hc)]; rfl, BI.bigSep_emp_const]
  unfold parcel; rw [if_pos rfl]
  exact BI.equiv_iff.mp sep_emp

/-! ## Families over the cells, device by device -/

theorem over_bar (Φ : GSem nD τ sig → sProp 𝕄) : bigSep barCells Φ = bigSep Finset.univ fun c : Dev nD => Φ (barCell c) :=
  bigSep_map (s := Finset.univ) barEmb
theorem over_own (Φ : GSem nD τ sig → sProp 𝕄) :
    bigSep ownCells Φ = bigSep Finset.univ fun c : Dev nD => iprop((bigSep Finset.univ fun k => Φ (sndCell c k)) ∗ bigSep Finset.univ fun k => Φ (rcvCell c k)) := by
  unfold ownCells; rw [bigSep_map, bigSep_univ_prod]
  exact bigSep_congr fun c _ => bigSep_own (fun p : Fin 2 × Fin 7 => Φ ((c : Thread nD τ), osem p))

theorem over_all (Φ : GSem nD τ sig → sProp 𝕄) : bigSep (barCells ∪ ownCells) Φ = iprop(bigSep barCells Φ ∗ bigSep ownCells Φ) :=
  BI.bigSep_union cells_disjoint

theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

theorem over_tickets (Φ : GSem nD τ sig × ℕ × Fin 7 → sProp 𝕄) :
    bigSep tickets₀ Φ = bigSep Finset.univ fun c : Dev nD => iprop((bigSep Finset.univ fun k => Φ (barCell c, 0, k))
      ∗ (bigSep Finset.univ fun k => Φ (sndCell c k, 0, 0)) ∗ bigSep Finset.univ fun k => Φ (rcvCell c k, 0, 0)) := by
  unfold tickets₀; rw [bigSep_map, bigSep_univ_prod]
  refine bigSep_congr fun c _ => ?_
  rw [bigSep_univ_prod, bigSep_three]; rfl

/-- The records of a launch at names `κ`. -/
theorem records_intro (G : Gath F) (κ : GSem nD τ sig → ℕ) :
    iprop((bigSep (barCells ∪ ownCells) fun g => (cellInv ER (rd G) (κ g) g : sProp 𝕄)) ∗ bigSep barCells fun g => reached ER g 0) ⊢ records G κ := by
  rw [over_all, over_bar, over_bar, over_own, bigSep_sep']
  unfold records
  rw [bigSep_univ_prod, bigSep_univ_prod]
  iintro ⟨⟨H1, H2, H3⟩, H4⟩
  isplitl [H1]; · iexact H1
  isplitl [H2]; · iexact H2
  isplitl [H3]; · iexact H3
  iexact H4

/-- Every step's permutation at once. -/
def shifts : Dev nD × Fin 7 ≃ Dev nD × Fin 7 :=
  ⟨fun x => (peer x.1 x.2, x.2), fun x => (origin x.1 x.2, x.2), fun x => Prod.ext (origin_peer x.1 x.2) rfl, fun x => Prod.ext (peer_origin x.1 x.2) rfl⟩

/-- A family over devices and steps, dealt along each step. -/
theorem dealt (Φ : Dev nD → Fin 7 → sProp 𝕄) :
    (bigSep Finset.univ fun c : Dev nD => bigSep Finset.univ fun k => Φ c k) = bigSep Finset.univ fun c : Dev nD => bigSep Finset.univ fun k => Φ (peer c k) k := by
  rw [← bigSep_univ_prod (fun x : Dev nD × Fin 7 => Φ x.1 x.2), ← bigSep_univ_prod (fun x : Dev nD × Fin 7 => Φ (peer x.1 x.2) x.2)]
  exact bigSep_univ_equiv shifts (fun x : Dev nD × Fin 7 => Φ x.1 x.2)

/-! ## The credits -/

theorem bar_ne_dma : ∀ k : Fin 7, (SemLoc.reg barS : SemLoc sig) ≠ .dma (rcvS k) := by decide
theorem bar_ne_rcv (c d : Dev nD) (k : Fin 7) : barCell c ≠ rcvCell d k := fun h => bar_ne_dma k (congrArg Prod.snd h)

theorem owed_bar_at (d c : Dev nD) : O₀ d (barCell c) () = ∑ k : Fin 7, if d = origin c k then 1 else 0 := by
  unfold O₀ owed
  rw [ge_zero, Pi.add_apply, Finsupp.add_apply, Finset.sum_apply, Finset.sum_apply, Finsupp.finset_sum_apply, Finsupp.finset_sum_apply,
    Finset.sum_eq_zero (fun k _ => by rw [tallyAt_ne_cell (bar_ne_rcv c (peer d k) k)]; rfl), Nat.zero_add]
  refine Finset.sum_congr rfl fun k _ => ?_
  rw [tallyAt_apply]
  by_cases h : d = origin c k
  · subst h; rw [peer_origin, if_pos ⟨rfl, rfl⟩, if_pos rfl]
  · rw [if_neg fun e => h ?_, if_neg h]
    rw [← origin_peer d k]; exact congrArg (origin · k) (congrArg (fun g : GSem nD τ sig => g.1.1) e.1).symm
theorem owed_rcv_at (d c : Dev nD) (k : Fin 7) : O₀ d (rcvCell c k) () = if d = origin c k then N else 0 := by
  unfold O₀ owed
  rw [ge_zero, Pi.add_apply, Finsupp.add_apply, Finset.sum_apply, Finset.sum_apply, Finsupp.finset_sum_apply, Finsupp.finset_sum_apply]
  rw [Finset.sum_eq_zero (s := Finset.univ) (f := fun k' => (tallyAt (barCell (peer d k')) () 1 : CellTallies nD τ sig Unit) (rcvCell c k) ())
    (fun k' _ => by rw [tallyAt_ne_cell (bar_ne_rcv (peer d k') c k).symm]; rfl), Nat.add_zero]
  have inj : ∀ k k' : Fin 7, rcvS k = rcvS k' → k = k' := by decide
  rw [Finset.sum_eq_single k]
  · rw [tallyAt_apply]
    by_cases h : d = origin c k
    · subst h; rw [peer_origin, if_pos ⟨rfl, rfl⟩, if_pos rfl]
    · rw [if_neg fun e => h ?_, if_neg h]
      rw [← origin_peer d k]; exact congrArg (origin · k) (congrArg (fun g : GSem nD τ sig => g.1.1) e.1).symm
  · intro k' _ hk
    rw [tallyAt_ne_cell fun h => hk (inj _ _ ?_)]; · rfl
    exact SemLoc.dma.inj (congrArg Prod.snd h).symm
  · exact fun h => absurd (Finset.mem_univ k) h

theorem credit_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar_at d c, Finset.sum_comm,
    Finset.sum_congr rfl fun k _ => (Finset.sum_ite_eq' Finset.univ (origin c k) fun _ => 1).trans (if_pos (Finset.mem_univ _))]
  rfl
theorem credit_rcv (c : Dev nD) (k : Fin 7) :
    tallyOn (rcvCell c k) (launchCredit (Pipeline.owing O₀) 0 (rcvCell c k)) = (tallyAt (rcvCell c k) () N : CellTallies nD τ sig Unit) := by
  unfold tallyAt; refine congrArg _ (Finsupp.ext fun u => ?_); cases u
  rw [Pipeline.launchCredit_owing, Finsupp.single_eq_same, Finset.sum_congr rfl fun d _ => owed_rcv_at d c k,
    Finset.sum_ite_eq' Finset.univ (origin c k) fun _ => N, if_pos (Finset.mem_univ _)]

def rcvEmb : Fin 7 ↪ SemLoc sig := ⟨fun k => .dma (rcvS k), by decide⟩

theorem credits_intro (c : Dev nD) : (Pipeline.launchCred O₀ c : sProp 𝕄) ⊢ credits c := by
  unfold Pipeline.launchCred credits
  rw [bigSep_univ_at _ (SemLoc.reg barS), credit_bar]
  rw [show (bigSep Finset.univ fun k => (cred (tallyAt (rcvCell c k) () N) : sProp 𝕄)) = bigSep (Finset.univ.map rcvEmb) fun sm : SemLoc sig =>
      (cred (tallyOn ((c : Thread nD τ), sm) (launchCredit (Pipeline.owing O₀) 0 ((c : Thread nD τ), sm))) : sProp 𝕄) from by
    rw [bigSep_map]; exact bigSep_congr fun k _ => congrArg _ (credit_rcv c k).symm]
  refine sep_mono_right (BI.bigSep_subset fun x hx => ?_)
  obtain ⟨k, -, rfl⟩ := Finset.mem_map.mp hx
  exact Finset.mem_erase.mpr ⟨fun h => bar_ne_dma k h.symm, Finset.mem_univ _⟩

/-! ## The deal -/

abbrev T₀ (c : Dev nD) : sProp 𝕄 := iprop(StableHlo.held (c : Thread nD τ) bufs (V₀ m c) ∗ R m c)

/-- What a device has at launch beside the exchange's tickets. -/
def bundle (c : Dev nD) : sProp 𝕄 :=
  iprop(StableHlo.held (c : Thread nD τ) bufs (V₀ m c) ∗ credits c ∗ owes (c : Thread nD τ) (O₀ c) ∅ ∗ ∃ r, prngReg c r)

theorem start_intro (κ : GSem nD τ sig → ℕ) (c : Dev nD) : iprop(records (gathered m) κ ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iexists κ; isplitr; · iexact HR
      iexact Hl
    iexact Hc
  isplitl [Hp]; · iexact Hp
  iexists ∅; iexact HO

/-- What one device has at launch. -/
theorem core_intro (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parcel c)
    ⊢ (iprop(bundle m c ∗ (semVal (barCell c) 0 ∗ parcel c)) : sProp 𝕄) := by
  rw [show unscopedBufs c (fun b => m ((c : Thread nD τ).loc b)) = StableHlo.held (c : Thread nD τ) bufs (V₀ m c) from unscoped_bufs c (V₀ m c),
    unscoped_sems]
  unfold bundle
  iintro ⟨Hh, Hus, HO, Hcr, Hp, HG⟩
  ihave Hc := (credits_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem cores_intro : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ parcel c))
    ⊢ (iprop((bigSep Finset.univ (bundle m)) ∗ (bigSep barCells fun g => semVal g 0) ∗ BI.own (ER (launchOf barCells ownCells tickets₀))) : sProp 𝕄) := by
  rw [over_bar, ← parcel_all, ← bigSep_sep', ← bigSep_sep']
  exact bigSep_mono fun c _ => core_intro m ρ c

/-- The tickets and positions, dealt. -/
theorem linear_intro : iprop((bigSep barCells fun g => (atPos ER g 0 ∅ 0 : sProp 𝕄)) ∗ (bigSep ownCells fun g => openTok ER g)
      ∗ bigSep tickets₀ fun x => dutyTok ER x.1 x.2.1 x.2.2) ⊢ bigSep Finset.univ (linear (F := F)) := by
  unfold linear
  rw [over_bar, over_own, over_tickets]
  simp only [bigSep_sep']
  rw [dealt (fun c k => dutyTok ER (barCell c) 0 k), dealt (fun c k => dutyTok ER (rcvCell c k) 0 0)]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parcel c)) ∗ levAts L lv)
      ⊢ (|={Set.univ}=> bigSep Finset.univ (T₀ m) : sProp 𝕄) := by
  iintro ⟨H, -⟩
  ihave H' := (cores_intro m ρ) $$ H
  icases H' with ⟨HB, Hv, Hu⟩
  imod (Rounds.fund_launch ER (rd (gathered m)) cells_disjoint (fun g _ h => h) tickets₀) $$ [Hv Hu] with ⟨%κ, -, #Hinv, #Hr, Hat, Hopen, Htok⟩
  · isplitl [Hv] <;> iassumption
  imodintro
  iapply (bigSep_with_persistent (R := records (gathered m) κ) (Φ := fun c => iprop(linear c ∗ bundle m c)) fun c _ => start_intro m κ c)
  isplitr
  · iapply (records_intro (gathered m) κ)
    isplitr; · iexact Hinv
    iexact Hr
  iapply (both (F := F) _ _)
  isplitr [HB]
  · iapply (linear_intro (F := F))
    isplitl [Hat]; · iexact Hat
    isplitl [Hopen]; · iexact Hopen
    iexact Htok
  · iexact HB

theorem unscoped_only : ∀ sm : SemLoc sig, sm.isScoped .tc = false → sm = .reg barS := by decide

/-- What an execution leaves on a device: the arguments as launched, the result. -/
def Left (c : Dev nD) (mem : (ℓ : Loc nD τ sig) → Buf (Elt F) ℓ) : Prop :=
  mem ((c : Thread nD τ).loc main_arg0) = m ((c : Thread nD τ).loc main_arg0) ∧ mem ((c : Thread nD τ).loc main_arg1) = m ((c : Thread nD τ).loc main_arg1)
    ∧ mem ((c : Thread nD τ).loc main_arg2) = m ((c : Thread nD τ).loc main_arg2) ∧ mem ((c : Thread nD τ).loc main_arg3) = m ((c : Thread nD τ).loc main_arg3)
    ∧ mem ((c : Thread nD τ).loc main_v2) = result (col m c) (gathered m)

set_option backward.isDefEq.respectTransparency.types false in
/-- The run: from any memory, every fair execution ends; then every device has its arguments as launched and its result,
    and every semaphore is at zero. -/
theorem run_main : θ_run defs (onTc (τ := τ) (main (F := F))) (s₀ m ρ) (fun r => (∀ c : Dev nD, Left m c r.2.mem) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parcel) (u₀ := u₀)
    (hu₀ := by
      unfold u₀
      iintro Hu
      ihave H := (ownU_pair _ _) $$ Hu
      icases H with ⟨HP, HX⟩
      imodintro
      isplitl [HP]; · iexact HP
      rw [parcel_all]; iexact HX)
    (T₀ := T₀ m) (Tₙ := Tₙ m)
    (hch := ⟨fun c => .rfl, fun c => reg_pre m c, fun c => reg_post m c⟩)
    (hinit := init m ρ)
    (QY := fun c s => Left m c s.mem ∧ s.sem (barCell c) = 0)
    (hfin := fun c s' => by
      dsimp only [Tₙ]; rw [held_bufs]
      iintro ⟨⟨⟨H0, H1, H2, H3, -, H5⟩, Hb⟩, HSI⟩
      icombine HSI H0 gives %h0
      icombine HSI H1 gives %h1
      icombine HSI H2 gives %h2
      icombine HSI H3 gives %h3
      icombine HSI H5 gives %h5
      icombine HSI Hb gives %hb
      imodintro
      isplitr
      · ipureintro
        exact ⟨⟨(Buf.eq_of_forall_mem_univ h0).trans (V₂_arg0 m c), (Buf.eq_of_forall_mem_univ h1).trans (V₂_arg1 m c),
          (Buf.eq_of_forall_mem_univ h2).trans (V₂_arg2 m c), (Buf.eq_of_forall_mem_univ h3).trans (V₂_arg3 m c),
          (Buf.eq_of_forall_mem_univ h5).trans (V₂_out m c)⟩, by simpa using hb⟩
      iexact HSI)
    (hQ := fun s h hs => ⟨fun c => (h c).1, sem_eq_zero hs fun c sm hsm => by
        obtain rfl := unscoped_only sm hsm
        exact (h c).2⟩)

end Cert.Exchange

end
-- ==== Proof.Routing.lean ====
module

public import Mathlib.Data.Fintype.Card
public import Mathlib.Data.Finset.Card
public import Mathlib.Algebra.Order.BigOperators.Group.Finset
public import Mathlib.Data.Fintype.Fin

/-! # The routing, as counting

512 tokens choose one of 16 experts each. An expert keeps the first 25 tokens that choose it. Device `d` owns the
experts `2d` and `2d + 1`, and numbers the tokens kept for it in order: token `t` has slot `slot e t`. The facts here:
a device keeps at most 50 tokens, so slots lie below 64, and two kept tokens of one device have different slots. -/

@[expose] public section

namespace Cert.Exchange

/-- How many tokens up to and including `t` have `p`. -/
def upTo {n : ℕ} (p : Fin n → Prop) [DecidablePred p] (t : Fin n) : ℕ := (Finset.univ.filter fun s => s ≤ t ∧ p s).card

/-- How many tokens before `t` have `p`. -/
def below {n : ℕ} (p : Fin n → Prop) [DecidablePred p] (t : Fin n) : ℕ := (Finset.univ.filter fun s => s < t ∧ p s).card

section counting

variable {n : ℕ} (p : Fin n → Prop) [DecidablePred p]

/-- The number depends on which tokens have `p`, not on how that is said. -/
theorem below_congr {p q : Fin n → Prop} [DecidablePred p] [DecidablePred q] {t : Fin n} (h : ∀ s, p s ↔ q s) : below p t = below q t :=
  congrArg Finset.card (Finset.filter_congr fun s _ => and_congr_right fun _ => h s)

/-- A token that has `p` counts itself. -/
theorem upTo_eq_succ {t : Fin n} (h : p t) : upTo p t = below p t + 1 := by
  unfold upTo below
  rw [show (Finset.univ.filter fun s => s ≤ t ∧ p s) = insert t (Finset.univ.filter fun s => s < t ∧ p s) from ?_,
    Finset.card_insert_of_notMem (by simp)]
  ext s
  simp only [Finset.mem_filter, Finset.mem_univ, true_and, Finset.mem_insert]
  constructor
  · rintro ⟨a, b⟩
    exact (lt_or_eq_of_le a).elim (fun c => .inr ⟨c, b⟩) .inl
  · rintro (rfl | ⟨a, b⟩)
    · exact ⟨le_refl _, h⟩
    · exact ⟨a.le, b⟩

/-- The numbering grows along the tokens that have `p`. -/
theorem below_lt_below {s t : Fin n} (h : p s) (hst : s < t) : below p s < below p t := by
  refine Finset.card_lt_card (Finset.ssubset_iff_subset_ne.2 ⟨fun x hx => ?_, fun e => ?_⟩)
  · have := Finset.mem_filter.1 hx
    exact Finset.mem_filter.2 ⟨Finset.mem_univ _, this.2.1.trans hst, this.2.2⟩
  · have : s ∈ Finset.univ.filter fun x => x < s ∧ p x := e ▸ Finset.mem_filter.2 ⟨Finset.mem_univ _, hst, h⟩
    exact absurd (Finset.mem_filter.1 this).2.1 (lt_irrefl _)

/-- Two tokens that have `p` and one number are one. -/
theorem eq_of_below_eq {s t : Fin n} (hs : p s) (ht : p t) (h : below p s = below p t) : s = t := by
  rcases lt_trichotomy s t with a | a | a
  · exact absurd h (below_lt_below p hs a).ne
  · exact a
  · exact absurd h.symm (below_lt_below p ht a).ne

/-- At most `k` tokens with `p` have a number below `k`. -/
theorem card_below_lt_le (k : ℕ) : (Finset.univ.filter fun s => p s ∧ below p s < k).card ≤ k := by
  have := Finset.card_le_card_of_injOn (s := Finset.univ.filter fun s => p s ∧ below p s < k) (t := Finset.range k) (below p)
    (fun x hx => Finset.mem_coe.2 (Finset.mem_range.2 (Finset.mem_filter.1 hx).2.2))
    (fun x hx y hy e => eq_of_below_eq p (Finset.mem_filter.1 hx).2.1 (Finset.mem_filter.1 hy).2.1 e)
  simpa using this

end counting

variable (e : Fin 512 → BitVec 32)

/-- Token `t` names an expert, and fewer than 25 tokens before it name the same. -/
def Kept (t : Fin 512) : Prop := (e t).toNat < 16 ∧ below (fun s => e s = e t) t < 25

instance : DecidablePred (Kept e) := fun _ => inferInstanceAs (Decidable (_ ∧ _))

/-- Device `d` keeps token `t`: it is kept, and its expert is one of the device's two. -/
def At (d : ℕ) (t : Fin 512) : Prop := Kept e t ∧ (e t).toNat / 2 = d

instance (d : ℕ) : DecidablePred (At e d) := fun _ => inferInstanceAs (Decidable (_ ∧ _))

/-- The place of token `t` among those that its device keeps. -/
def slot (t : Fin 512) : ℕ := below (At e ((e t).toNat / 2)) t

/-- An expert keeps at most 25 tokens. -/
theorem card_kept_expert (x : ℕ) : (Finset.univ.filter fun t => Kept e t ∧ (e t).toNat = x).card ≤ 25 := by
  refine le_trans (Finset.card_le_card fun t ht => ?_) (card_below_lt_le (fun s => (e s).toNat = x) 25)
  obtain ⟨-, ⟨-, hk⟩, hx⟩ := Finset.mem_filter.1 ht
  refine Finset.mem_filter.2 ⟨Finset.mem_univ _, hx, ?_⟩
  exact (below_congr fun s => by rw [← hx, BitVec.toNat_inj]).trans_lt hk

/-- A device keeps at most 50 tokens. -/
theorem card_at (d : ℕ) : (Finset.univ.filter (At e d)).card ≤ 50 := by
  refine le_trans (Finset.card_le_card (t := (Finset.univ.filter fun t => Kept e t ∧ (e t).toNat = 2 * d)
    ∪ (Finset.univ.filter fun t => Kept e t ∧ (e t).toNat = 2 * d + 1)) fun t ht => ?_)
    (le_trans (Finset.card_union_le _ _) (Nat.add_le_add (card_kept_expert e _) (card_kept_expert e _)))
  obtain ⟨-, hk, hd⟩ := Finset.mem_filter.1 ht
  rcases Nat.mod_two_eq_zero_or_one (e t).toNat with h | h
  · exact Finset.mem_union_left _ (Finset.mem_filter.2 ⟨Finset.mem_univ _, hk, by omega⟩)
  · exact Finset.mem_union_right _ (Finset.mem_filter.2 ⟨Finset.mem_univ _, hk, by omega⟩)

/-- Slots fit a device's 64 rows. -/
theorem slot_lt (t : Fin 512) : slot e t < 64 := by
  have h : slot e t ≤ (Finset.univ.filter (At e ((e t).toNat / 2))).card := by
    unfold slot below
    exact Finset.card_le_card fun s hs => Finset.mem_filter.2 ⟨Finset.mem_univ _, (Finset.mem_filter.1 hs).2.2⟩
  exact lt_of_le_of_lt (h.trans (card_at e _)) (by decide)

/-- Two tokens that one device keeps and that have one slot are one. -/
theorem eq_of_slot_eq {d : ℕ} {s t : Fin 512} (hs : At e d s) (ht : At e d t) (h : slot e s = slot e t) : s = t := by
  unfold slot at h
  rw [hs.2, ht.2] at h
  exact eq_of_below_eq _ hs ht h

end Cert.Exchange
-- ==== Proof.Words.lean ====
module

public import proofs.«01_k».proof.Proof.Routing
public import Idealize.ShloMosaic.Lib.Pointwise
public import Idealize.ShloMosaic.Lib.WordCmp

/-! # Bits, counts and the expert's words

A mask bit read as a float is one or zero, so a sum of products of mask bits is a count; an expert's word below 16
divides and leaves remainders as its number does. -/

@[expose] public section

noncomputable section

namespace Cert.Exchange

open Idealize.ShloMosaic

/-- A bit widened to a word and read as a float: one where it is set, else zero. -/
theorem sitofp_bit (b : BitVec 1) : FloatOps.sitofp (F := Ideal) FTy.f32 (BitVec.setWidth 32 b) = if b = 1#1 then (1 : EReal) else 0 := by
  show (((BitVec.setWidth 32 b).toInt : ℝ) : EReal) = _
  rcases BitVec.eq_zero_or_eq_one b with rfl | rfl
  · rw [show (BitVec.setWidth 32 0#1).toInt = 0 from rfl]; simp
  · rw [show (BitVec.setWidth 32 1#1).toInt = 1 from rfl]; simp

/-- A small number's word read as a float. -/
theorem sitofp_ofNat {n : ℕ} (h : n < 2 ^ 31) : FloatOps.sitofp (F := Ideal) FTy.f32 (BitVec.ofNat 32 n) = (n : EReal) := by
  show (((BitVec.ofNat 32 n).toInt : ℝ) : EReal) = _
  rw [BitVec.toInt_ofNat', Int.bmod_eq_of_le (by omega) (by omega)]
  rfl

/-- The conjunction of two bits. -/
theorem andi_eq_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- The kernel's comparisons of words, as bits. -/
theorem eq_bit {n : ℕ} (a b : BitVec n) : IntOp.cmpi .eq a b = 1#1 ↔ a = b := by rw [WordCmp.cmpi_eq_eq, WordCmp.ofBool_decide_eq_one_iff]

/-- A small number's word, read signed. -/
theorem toInt_small {n : ℕ} (h : n < 512) : (BitVec.ofNat 32 n).toInt = n := by
  rw [BitVec.toInt_ofNat', Int.bmod_eq_of_le (by omega) (by omega)]

theorem sle_bit (a b : Fin 512) : IntOp.cmpi .sle (BitVec.ofNat 32 ↑a) (BitVec.ofNat 32 ↑b) = 1#1 ↔ a ≤ b := by
  rw [WordCmp.cmpi_sle_eq, WordCmp.ofBool_decide_eq_one_iff, toInt_small a.2, toInt_small b.2]; exact Int.ofNat_le
theorem slt_bit (a b : Fin 512) : IntOp.cmpi .slt (BitVec.ofNat 32 ↑a) (BitVec.ofNat 32 ↑b) = 1#1 ↔ a < b := by
  rw [WordCmp.cmpi_slt_eq, WordCmp.ofBool_decide_eq_one_iff, toInt_small a.2, toInt_small b.2]; exact Int.ofNat_lt
theorem sge_bit (a b : Fin 512) : IntOp.cmpi .sge (BitVec.ofNat 32 ↑a) (BitVec.ofNat 32 ↑b) = 1#1 ↔ b ≤ a := by
  rw [WordCmp.cmpi_sge_eq, WordCmp.ofBool_decide_eq_one_iff, toInt_small a.2, toInt_small b.2]; exact Int.ofNat_le
theorem sgt_bit (a b : Fin 512) : IntOp.cmpi .sgt (BitVec.ofNat 32 ↑a) (BitVec.ofNat 32 ↑b) = 1#1 ↔ b < a := by
  rw [WordCmp.cmpi_sgt_eq, WordCmp.ofBool_decide_eq_one_iff, toInt_small a.2, toInt_small b.2]; exact Int.ofNat_lt

/-- A small number's word is another word where the numbers agree. -/
theorem ofNat_eq_iff {n : ℕ} (h : n < 2 ^ 32) (w : BitVec 32) : BitVec.ofNat 32 n = w ↔ w.toNat = n := by
  rw [← BitVec.toNat_inj, BitVec.toNat_ofNat, Nat.mod_eq_of_lt h, eq_comm]

/-- Two indicators multiply to the indicator of both. -/
theorem ind_mul (p q : Prop) [Decidable p] [Decidable q] :
    (if p then (1 : EReal) else 0) * (if q then (1 : EReal) else 0) = if p ∧ q then 1 else 0 := by
  by_cases hp : p <;> by_cases hq : q <;> simp [hp, hq]

/-- A sum of indicators is a count. -/
theorem sum_ind {n : ℕ} (p : Fin n → Prop) [DecidablePred p] : (∑ s, if p s then (1 : EReal) else 0) = ((Finset.univ.filter p).card : EReal) := by
  rw [Finset.sum_ite, Finset.sum_const_zero, add_zero, Finset.sum_const, nsmul_one]

/-- An indicator times a value. -/
theorem ind_mul_val (p : Prop) [Decidable p] (y : EReal) : (if p then (1 : EReal) else 0) * y = if p then y else 0 := by
  by_cases hp : p <;> simp [hp]

/-- A value that counts only where `p` holds, times another. -/
theorem ind_val_mul (p : Prop) [Decidable p] (x y : EReal) : (if p then x else 0) * y = if p then x * y else 0 := by
  by_cases hp : p <;> simp [hp]

/-- A sum in which only one index counts. -/
theorem sum_only {n : ℕ} (p : Fin n → Prop) [DecidablePred p] (f : Fin n → EReal) {a : Fin n} (ha : p a) (hu : ∀ b, p b → b = a) :
    (∑ s, if p s then f s else 0) = f a := by
  rw [Finset.sum_eq_single a (fun b _ hb => if_neg fun h => hb (hu b h)) (fun h => absurd (Finset.mem_univ a) h), if_pos ha]

/-- A sum in which no index counts. -/
theorem sum_none {n : ℕ} (p : Fin n → Prop) [DecidablePred p] (f : Fin n → EReal) (hu : ∀ b, ¬ p b) : (∑ s, if p s then f s else 0) = 0 :=
  Finset.sum_eq_zero fun s _ => if_neg (hu s)

/-- The constants of the kernel's comparisons. -/
theorem twentyfive : Ideal.ofBits FTy.f32 0x41C80000#32 = ((25 : ℕ) : EReal) := by
  rw [← EReal.coe_coe_eq_natCast]
  simp [Ideal.ofBits, Ideal.ieee, -EReal.coe_mul]; norm_num
theorem sixtyfour : Ideal.ofBits FTy.f32 0x42800000#32 = ((64 : ℕ) : EReal) := by
  rw [← EReal.coe_coe_eq_natCast]
  simp [Ideal.ofBits, Ideal.ieee, -EReal.coe_mul]; norm_num

/-- The remainder by two of a word below 16. -/
theorem remsi_two {w : BitVec 32} (h : w.toNat < 16) : IntOp.remsi ArithUnit.vector w 2#32 = BitVec.ofNat 32 (w.toNat % 2) := by
  obtain ⟨k, rfl⟩ : ∃ k : Fin 16, w = BitVec.ofNat 32 k := ⟨⟨_, h⟩, by simp⟩
  revert k; decide

/-- The kernel's division by two, its sign correction included, at a word below 16. -/
theorem owner_word {w : BitVec 32} (h : w.toNat < 16) :
    Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 2#32 0#32))
            (Scalar.extui (Scalar.cmpi CmpIPredicate.slt 2#32 0#32))))
        (IntOp.cmpi CmpIPredicate.ne (IntOp.remsi ArithUnit.vector w 2#32) 0#32))
      (IntOp.subi (IntOp.divsi ArithUnit.vector w 2#32) 1#32)
      (IntOp.divsi ArithUnit.vector w 2#32) = BitVec.ofNat 32 (w.toNat / 2) := by
  obtain ⟨k, rfl⟩ : ∃ k : Fin 16, w = BitVec.ofNat 32 k := ⟨⟨_, h⟩, by simp⟩
  revert k; decide

/-- Some expert's word is the token's, with at most 25 tokens up to it: the token is kept. -/
theorem some_expert (e : Fin 512 → BitVec 32) (t : Fin 512) :
    (0 < (Finset.univ.filter fun x : Fin 16 => BitVec.ofNat 32 ↑x = e t ∧
      (Finset.univ.filter fun s => BitVec.ofNat 32 ↑x = e s ∧ s ≤ t).card ≤ 25).card) ↔ Kept e t := by
  have key : ∀ x : Fin 16, BitVec.ofNat 32 ↑x = e t → ((Finset.univ.filter fun s => BitVec.ofNat 32 ↑x = e s ∧ s ≤ t).card ≤ 25
      ↔ below (fun s => e s = e t) t < 25) := by
    intro x hx
    have h := upTo_eq_succ (fun s => e s = e t) (t := t) rfl
    have h' : (Finset.univ.filter fun s => BitVec.ofNat 32 ↑x = e s ∧ s ≤ t).card = upTo (fun s => e s = e t) t :=
      congrArg Finset.card (Finset.filter_congr fun s _ => by rw [hx, and_comm, eq_comm (a := e t)])
    omega
  rw [Finset.card_pos]
  constructor
  · rintro ⟨x, hx⟩
    obtain ⟨-, hx, hc⟩ := Finset.mem_filter.1 hx
    refine ⟨?_, (key x hx).1 hc⟩
    rw [← hx, BitVec.toNat_ofNat]; omega
  · rintro ⟨hl, hc⟩
    have hx : BitVec.ofNat 32 ↑(⟨(e t).toNat, hl⟩ : Fin 16) = e t := by simp
    exact ⟨_, Finset.mem_filter.2 ⟨Finset.mem_univ _, hx, (key _ hx).2 hc⟩⟩

/-- The kernel's rank of a kept token, a sum over the eight devices, is its slot. -/
theorem rank_sum (e o : Fin 512 → BitVec 32) (ho : ∀ s, Kept e s → o s = BitVec.ofNat 32 ((e s).toNat / 2)) {t : Fin 512} (ht : Kept e t) :
    (∑ x : Fin 8, ((Finset.univ.filter fun s => (BitVec.ofNat 32 ↑x = o s ∧ Kept e s) ∧ s < t).card : EReal)
      * (if BitVec.ofNat 32 ↑x = o t ∧ Kept e t then 1 else 0)) = (slot e t : EReal) := by
  have hb : ∀ (x : Fin 8) s, (BitVec.ofNat 32 ↑x = o s ∧ Kept e s) ↔ At e x s := by
    intro x s
    rw [and_comm]
    refine and_congr_right fun hs => ?_
    have := hs.1
    rw [ho s hs, ofNat_eq_iff (by omega), BitVec.toNat_ofNat, Nat.mod_eq_of_lt (by omega)]
  have hl : (e t).toNat / 2 < 8 := by have := ht.1; omega
  simp only [hb, mul_comm _ (ite _ _ _), ind_mul_val]
  rw [sum_only (a := ⟨_, hl⟩) (fun x : Fin 8 => At e x t) _ ⟨ht, rfl⟩ (fun b h => Fin.ext h.2.symm)]
  exact congrArg _ (congrArg Finset.card (Finset.filter_congr fun s _ => and_comm))

end Cert.Exchange
-- ==== Proof.RowSide.lean ====
module

public import proofs.«01_k».proof.Proof.Body
public import proofs.«01_k».proof.Proof.Words

/-! # The routing that the kernel computes from the row of indices

What each mask and rank holds at a token. -/

@[expose] public section

set_option maxRecDepth 16384

noncomputable section

namespace Cert.Exchange

open Idealize.ShloMosaic Cert.KernelIdeal Cert.KernelIdeal.Gen

/-- The choices that a row of indices holds. -/
abbrev rowIdx (v : IVec S1x512 32) : Fin 512 → BitVec 32 := fun t => v (ix2 0 t)

/-- The kept mask. -/
theorem pay2_at (v : IVec S1x512 32) (t : Fin 512) : k0_pay2 (F := Ideal) v (ix2 0 t) = 1#1 ↔ Kept (rowIdx v) t := by
  pointwise [k0_pay2, k0_pay1]
  rw [WordCmp.ofBool_decide_eq_one_iff, ← some_expert]
  simp only [sitofp_bit, andi_eq_one, eq_bit, WordCmp.ofBool_decide_eq_one_iff, sle_bit, ind_mul, sum_ind, twentyfive, EReal.natCast_le_iff]
  rw [← Nat.cast_zero (R := EReal), EReal.natCast_lt_iff]

theorem pay6_at (v : IVec S1x512 32) (t : Fin 512) (h : (rowIdx v t).toNat < 16) :
    k0_pay6 (k0_pay3 (F := Ideal) v) (k0_pay4 (F := Ideal) v) (k0_pay5 (F := Ideal) v) 0#32 (ix2 0 t) = BitVec.ofNat 32 ((rowIdx v t).toNat / 2) := by
  pointwise [k0_pay6, k0_pay3, k0_pay4, k0_pay5, k0_pay1]
  exact owner_word h

theorem pay7_at (v : IVec S1x512 32) (t : Fin 512) (h : (rowIdx v t).toNat < 16) :
    k0_pay7 (k0_pay1 (F := Ideal) v) (ix2 0 t) = BitVec.ofNat 32 ((rowIdx v t).toNat % 2) := by
  pointwise [k0_pay7, k0_pay1]
  exact remsi_two h

/-- The rank of a kept token among its device's. -/
theorem pay8_at (v : IVec S1x512 32) (t : Fin 512) (h : Kept (rowIdx v) t) :
    k0_pay8 (F := Ideal) (k0_pay2 (F := Ideal) v) (k0_pay3 (F := Ideal) v) (k0_pay4 (F := Ideal) v) (k0_pay5 (F := Ideal) v) 0#32 (ix2 0 t)
      = (slot (rowIdx v) t : EReal) := by
  rw [← rank_sum (rowIdx v) _ (fun s hs => pay6_at v s hs.1) h]
  pointwise [k0_pay8]
  simp only [sitofp_bit, andi_eq_one, eq_bit, slt_bit, ind_mul, sum_ind, pay2_at]

/-- A device's number, as the kernel computes it. -/
theorem word_eq (c : Dev nD) : word c = BitVec.ofNat 32 ↑c := by revert c; decide

/-- The tokens of device `c`. -/
theorem pay9_at (v : IVec S1x512 32) (c : Dev nD) (t : Fin 512) :
    k0_pay9 (word c) (k0_pay2 (F := Ideal) v) (k0_pay3 (F := Ideal) v) (k0_pay4 (F := Ideal) v) (k0_pay5 (F := Ideal) v) 0#32 (ix2 0 t) = 1#1
      ↔ At (rowIdx v) c t := by
  pointwise [k0_pay9]
  rw [andi_eq_one, eq_bit, pay2_at]
  refine and_congr_right fun h => ?_
  rw [pay6_at v t h.1, word_eq, ofNat_eq_iff (by have := h.1; omega), BitVec.toNat_ofNat, Nat.mod_eq_of_lt (lt_trans (show (c : ℕ) < 8 from c.2) (by decide)), eq_comm]

/-- The mask of row `p` and token `t` for the device's expert `j`. -/
theorem mask_at (v : IVec S1x512 32) (c : Dev nD) (p : Fin 64) (t : Fin 512) {j : ℕ} (hj : j < 2) :
    IntOp.andi
      (IntOp.andi
        (BitVec.ofBool (decide (k0_pay10 (F := Ideal) (ix2 p t) = k0_pay8 (F := Ideal) (k0_pay2 (F := Ideal) v) (k0_pay3 (F := Ideal) v) (k0_pay4 (F := Ideal) v) (k0_pay5 (F := Ideal) v) 0#32 (ix2 0 t))))
        (k0_pay9 (word c) (k0_pay2 (F := Ideal) v) (k0_pay3 (F := Ideal) v) (k0_pay4 (F := Ideal) v) (k0_pay5 (F := Ideal) v) 0#32 (ix2 0 t)))
      (IntOp.cmpi .eq (k0_pay7 (k0_pay1 (F := Ideal) v) (ix2 0 t)) (BitVec.ofNat 32 j)) = 1#1
      ↔ (slot (rowIdx v) t = p ∧ At (rowIdx v) c t) ∧ (rowIdx v t).toNat % 2 = j := by
  rw [andi_eq_one, andi_eq_one, pay9_at, eq_bit, WordCmp.ofBool_decide_eq_one_iff, and_assoc, and_assoc, and_left_comm, and_left_comm (a := slot _ _ = _)]
  refine and_congr_right fun h => and_congr ?_ ?_
  · rw [pay8_at v t h.1]
    pointwise [k0_pay10]
    rw [sitofp_ofNat (by omega), EReal.natCast_eq_iff, eq_comm]
  · rw [pay7_at v t h.1.1, ofNat_eq_iff (by omega), BitVec.toNat_ofNat, Nat.mod_eq_of_lt (by omega), eq_comm]

/-- The tokens taken for the device's first expert. -/
theorem pay11_at (v : IVec S1x512 32) (c : Dev nD) (x : FVec Ideal S512x256 .bf16) (p : Fin 64) (d : Fin 256) :
    k0_pay11 (F := Ideal) (word c) (k0_pay1 (F := Ideal) v) (k0_pay2 (F := Ideal) v) (k0_pay3 (F := Ideal) v) (k0_pay4 (F := Ideal) v) (k0_pay5 (F := Ideal) v) 0#32 x (ix2 p d)
      = ∑ t : Fin 512, if (slot (rowIdx v) t = p ∧ At (rowIdx v) c t) ∧ (rowIdx v t).toNat % 2 = 0 then x (ix2 t d) else (0 : EReal) := by
  pointwise [k0_pay11]
  refine Finset.sum_congr rfl fun t _ => ?_
  rw [sitofp_bit, ind_mul_val]
  exact if_congr (mask_at v c p t (by decide)) rfl rfl

/-- The device's two weight matrices. -/
theorem slab0_at (w : FVec Ideal S2x256x512 .bf16) (d : Fin 256) (f : Fin 512) : slab0 (F := Ideal) w (ix3 0 d f) = w (ix3 0 d f) := by
  refine congrArg w (funext fun a => Fin.ext ?_)
  match a with
  | ⟨0, _⟩ => rfl
  | ⟨1, _⟩ => exact (Nat.zero_add _).trans (Nat.one_mul _)
  | ⟨2, _⟩ => exact (Nat.zero_add _).trans (Nat.one_mul _)
theorem slab1_at (w : FVec Ideal S2x256x512 .bf16) (d : Fin 256) (f : Fin 512) : slab1 (F := Ideal) w (ix3 0 d f) = w (ix3 1 d f) := by
  refine congrArg w (funext fun a => Fin.ext ?_)
  match a with
  | ⟨0, _⟩ => rfl
  | ⟨1, _⟩ => exact (Nat.zero_add _).trans (Nat.one_mul _)
  | ⟨2, _⟩ => exact (Nat.zero_add _).trans (Nat.one_mul _)

/-- What device `c` computes for a token that it keeps, in the token's row: the token's product with its expert's
    matrix, the device's first or second. -/
theorem contrib_at (c : Dev nD) (v : IVec S1x512 32) (x : FVec Ideal S512x256 .bf16) (w : FVec Ideal S2x256x512 .bf16) (t : Fin 512) (f : Fin 512)
    (h : At (rowIdx v) c t) :
    contrib (F := Ideal) c v x w (ix2 ⟨slot (rowIdx v) t, slot_lt _ t⟩ f)
      = ∑ d : Fin 256, x (ix2 t d) * w (ix3 ⟨(rowIdx v t).toNat % 2, Nat.mod_lt _ (by decide)⟩ d f) := by
  have taken : ∀ (j : ℕ) (d : Fin 256), (∑ s : Fin 512, if (slot (rowIdx v) s = slot (rowIdx v) t ∧ At (rowIdx v) c s) ∧ (rowIdx v s).toNat % 2 = j
      then x (ix2 s d) else (0 : EReal)) = if (rowIdx v t).toNat % 2 = j then x (ix2 t d) else (0 : EReal) := by
    intro j d
    by_cases hj : (rowIdx v t).toNat % 2 = j
    · rw [if_pos hj]
      exact sum_only _ (fun s => x (ix2 s d)) ⟨⟨rfl, h⟩, hj⟩ (fun b hb => eq_of_slot_eq _ hb.1.2 h hb.1.1)
    · rw [if_neg hj]
      exact sum_none _ (fun s => x (ix2 s d)) (fun b hb => hj (eq_of_slot_eq _ hb.1.2 h hb.1.1 ▸ hb.2))
  have second : ∀ d : Fin 256, (∑ s : Fin 512, FloatOps.sitofp (F := Ideal) FTy.f32 (BitVec.setWidth 32
      (IntOp.andi
        (IntOp.andi
          (BitVec.ofBool (decide (k0_pay10 (F := Ideal) (ix2 ⟨slot (rowIdx v) t, slot_lt _ t⟩ s) = k0_pay8 (F := Ideal) (k0_pay2 (F := Ideal) v) (k0_pay3 (F := Ideal) v) (k0_pay4 (F := Ideal) v) (k0_pay5 (F := Ideal) v) 0#32 (ix2 0 s))))
          (k0_pay9 (word c) (k0_pay2 (F := Ideal) v) (k0_pay3 (F := Ideal) v) (k0_pay4 (F := Ideal) v) (k0_pay5 (F := Ideal) v) 0#32 (ix2 0 s)))
        (IntOp.cmpi .eq (k0_pay7 (k0_pay1 (F := Ideal) v) (ix2 0 s)) 1#32))) * x (ix2 s d))
      = if (rowIdx v t).toNat % 2 = 1 then x (ix2 t d) else (0 : EReal) := by
    intro d
    rw [← taken 1 d]
    refine Finset.sum_congr rfl fun s _ => ?_
    rw [sitofp_bit, ind_mul_val]
    exact if_congr (mask_at v c _ s (j := 1) (by decide)) rfl rfl
  unfold contrib
  pointwise [k0_pay12]
  simp only [slab0_at, slab1_at, pay11_at, second]
  simp only [taken 0, ind_val_mul]
  have hm : (⟨(rowIdx v t).toNat % 2, Nat.mod_lt _ (by decide)⟩ : Fin 2) = if (rowIdx v t).toNat % 2 = 0 then 0 else 1 := by
    rcases Nat.mod_two_eq_zero_or_one (rowIdx v t).toNat with h0 | h0 <;> simp [h0]
  rw [hm]
  rcases Nat.mod_two_eq_zero_or_one (rowIdx v t).toNat with h0 | h0 <;> simp [h0]

end Cert.Exchange
-- ==== Proof.ColSide.lean ====
module

public import proofs.«01_k».proof.Proof.Body
public import proofs.«01_k».proof.Proof.Words

/-! # The row that each token's result is picked from

The kernel computes it from the column of indices: the token's device times 64, plus its rank. -/

@[expose] public section

set_option maxRecDepth 16384

noncomputable section

namespace Cert.Exchange

open Idealize.ShloMosaic Cert.KernelIdeal Cert.KernelIdeal.Gen

/-- The choices that a column of indices holds. -/
abbrev colIdx (v : IVec S512x1 32) : Fin 512 → BitVec 32 := fun t => v (ix2 t 0)

theorem pay13_at (v : IVec S512x1 32) (t : Fin 512) : k0_pay13 (F := Ideal) v (ix2 t 0) = v (ix2 t 0) := by pointwise [k0_pay13]

/-- The kept mask. -/
theorem pay15_at (v : IVec S512x1 32) (t : Fin 512) : k0_pay15 (F := Ideal) (k0_pay14 (F := Ideal) v) (ix2 t 0) = 1#1 ↔ Kept (colIdx v) t := by
  pointwise [k0_pay15, k0_pay14]
  rw [WordCmp.ofBool_decide_eq_one_iff, ← some_expert]
  simp only [sitofp_bit, andi_eq_one, eq_bit, WordCmp.ofBool_decide_eq_one_iff, sge_bit, ind_mul, sum_ind, twentyfive, EReal.natCast_le_iff,
    pay13_at, eq_comm (a := v _), and_comm (a := _ ≤ t)]
  rw [← Nat.cast_zero (R := EReal), EReal.natCast_lt_iff]

theorem pay16_at (v : IVec S512x1 32) (t : Fin 512) (h : (colIdx v t).toNat < 16) :
    k0_pay16 (k0_pay13 (F := Ideal) v) (ix2 t 0) = BitVec.ofNat 32 ((colIdx v t).toNat / 2) := by
  pointwise [k0_pay16, k0_pay13]
  exact owner_word h

/-- The rank of a kept token among its device's. -/
theorem pay17_at (v : IVec S512x1 32) (t : Fin 512) (h : Kept (colIdx v) t) :
    k0_pay17 (F := Ideal) (k0_pay13 (F := Ideal) v) (k0_pay14 (F := Ideal) v) (ix2 t 0) = (slot (colIdx v) t : EReal) := by
  rw [← rank_sum (colIdx v) _ (fun s hs => pay16_at v s hs.1) h]
  pointwise [k0_pay17]
  simp only [sitofp_bit, andi_eq_one, eq_bit, sgt_bit, ind_mul, sum_ind, pay15_at, and_comm (a := _ < t)]

/-- The token's device. -/
theorem pay18_at (v : IVec S512x1 32) (t : Fin 512) (h : (colIdx v t).toNat < 16) :
    k0_pay18 (F := Ideal) (k0_pay13 (F := Ideal) v) (ix2 t 0) = (((colIdx v t).toNat / 2 : ℕ) : EReal) := by
  pointwise [k0_pay18]
  rw [pay16_at v t h, sitofp_ofNat (by omega)]
theorem pay19_at (t : Fin 512) : k0_pay19 (F := Ideal) (ix2 t 0) = ((64 : ℕ) : EReal) := by
  pointwise [k0_pay19]
  exact sixtyfour

/-- The row of the gathered buffer that holds a kept token's result. -/
def rowOf (e : Fin 512 → BitVec 32) (t : Fin 512) : ℕ := (e t).toNat / 2 * 64 + slot e t
theorem rowOf_lt {e : Fin 512 → BitVec 32} {t : Fin 512} (h : Kept e t) : rowOf e t < 512 := by
  have h1 := h.1; have h2 := slot_lt e t
  unfold rowOf; omega

theorem picker_at (v : IVec S512x1 32) (t i : Fin 512) :
    picker (F := Ideal) v (ix2 t i) = if Kept (colIdx v) t ∧ (i : ℕ) = rowOf (colIdx v) t then (1 : EReal) else 0 := by
  unfold picker
  pointwise [k0_pay20]
  rw [sitofp_bit]
  refine if_congr ?_ rfl rfl
  rw [andi_eq_one, pay15_at, and_comm]
  refine and_congr_right fun h => ?_
  rw [WordCmp.ofBool_decide_eq_one_iff, pay17_at v t h, pay18_at v t h.1, pay19_at, sitofp_ofNat (by omega), ← EReal.natCast_mul, ← Nat.cast_add, EReal.natCast_eq_iff, rowOf]

/-- Each row of the result is the gathered row of its token, where the token is kept. -/
theorem result_at (v : IVec S512x1 32) (G : FVec Ideal S512x512 .bf16) (t f : Fin 512) :
    result (F := Ideal) v G (ix2 t f) = if h : Kept (colIdx v) t then G (ix2 ⟨rowOf (colIdx v) t, rowOf_lt h⟩ f) else (0 : EReal) := by
  unfold result
  pointwise [k0_pay21]
  simp only [picker_at, ind_mul_val]
  by_cases h : Kept (colIdx v) t
  · rw [dif_pos h]
    exact sum_only _ (fun s => G (ix2 s f)) (a := ⟨rowOf (colIdx v) t, rowOf_lt h⟩) ⟨h, rfl⟩ (fun b hb => Fin.ext hb.2)
  · rw [dif_neg h]
    exact sum_none _ (fun s => G (ix2 s f)) (fun b hb => h hb.1)

end Cert.Exchange
-- ==== Proof.Value.lean ====
module

public import proofs.«01_k».proof.Proof.Region
public import proofs.«01_k».proof.Proof.RowSide
public import proofs.«01_k».proof.Proof.ColSide
import Idealize.ShloMosaic.Lib.Claim
import Idealize.ShloMosaic.Lib.Pipeline.ValueKit

/-! # The kernel's result, row by row -/

@[expose] public section

set_option maxRecDepth 16384

noncomputable section

namespace Cert.Exchange

open Idealize.ShloMosaic Cert.KernelIdeal Cert.KernelIdeal.Gen

variable (m : (ℓ : Loc nD τ sig) → Buf (Elt Ideal) ℓ)

/-- The arrays that a memory holds on a device: the tokens, the choices, the weights. -/
abbrev argX (c : Dev nD) : FVec Ideal S512x256 .bf16 := m ((c.tc : Thread nD τ).loc main_arg0)
abbrev argE (c : Dev nD) : IVec S512x1 32 := m ((c.tc : Thread nD τ).loc main_arg2)
abbrev argW (c : Dev nD) : FVec Ideal S2x256x512 .bf16 := m ((c.tc : Thread nD τ).loc main_arg3)

/-- Every operand is staged whole. -/
theorem idx : win0_0.index t0_0 = ![0, 0] ∧ win0_1.index t0_0 = ![0, 0] ∧ win0_2.index t0_0 = ![0, 0] ∧ win0_3.index t0_0 = ![0, 0, 0] := by decide +kernel

theorem col_at (c : Dev nD) (t : Fin 512) : col m c (ix2 t 0) = argE m c (ix2 t 0) := by
  blk_ext! [iblk, V, idx]
theorem row_at (c : Dev nD) (t : Fin 512) : row m c (ix2 0 t) = argE m c (ix2 t 0) := by
  blk_ext! [iblk, V, idx]
theorem toks_at (c : Dev nD) (t : Fin 512) (d : Fin 256) : toks m c (ix2 t d) = argX m c (ix2 t d) := by
  blk_ext! [iblk, V, idx]
theorem wts_at (c : Dev nD) (j : Fin 2) (d : Fin 256) (f : Fin 512) : wts m c (ix3 j d f) = argW m c (ix3 j d f) := by
  blk_ext! [iblk, V, idx]

/-- Row `64 c + p` of the gathered buffer is row `p` of what device `c` computes. -/
theorem gathered_at (c : Dev nD) (p : Fin 64) (f : Fin 512) {i : Fin 512} (hi : (i : ℕ) = (c : ℕ) * 64 + p) :
    gathered m (ix2 i f) = contrib c (row m c) (toks m c) (wts m c) (ix2 p f) := by
  have hd : ∀ h, (⟨((ix2 i f : S512x512.Idx) 0).val / 64, h⟩ : Dev nD) = c := fun h => Fin.ext (by show (i : ℕ) / 64 = c; omega)
  unfold gathered
  rw [hd]
  refine congrArg _ (funext fun a => ?_)
  match a with
  | ⟨0, _⟩ => exact Fin.ext (by show (i : ℕ) % 64 = p; omega)
  | ⟨1, _⟩ => rfl

/-- A weight of an expert, in the array that device `c` holds its two experts of. -/
theorem block_at (c : Dev nD) (w : FVec Ideal (⟨3, ![16, 256, 512]⟩ : Shape) .bf16) (j : Fin 2) (d : Fin 256) (f : Fin 512) {e : Fin 16} (he : (e : ℕ) = (c : ℕ) * 2 + j) :
    (Layout.block ⟨3, ![2, 256, 512]⟩ ⟨3, ![16, 256, 512]⟩ 0 8 c w) (ix3 j d f) = w (ix3 e d f) := by
  rw [Layout.block_apply]
  refine congrArg w (funext fun a => Fin.ext ?_)
  rw [Layout.Tiles.idx_val]
  match a with
  | ⟨0, _⟩ => exact he.symm
  | ⟨1, _⟩ => rfl
  | ⟨2, _⟩ => rfl

/-- Each row of the kernel's result is the token's product with its expert's matrix, where the token is kept. -/
theorem kernel_at {x : FVec Ideal S512x256 .bf16} {v : IVec S512x1 32} {w : FVec Ideal (⟨3, ![16, 256, 512]⟩ : Shape) .bf16}
    (hx : ∀ c, argX m c = x) (hv : ∀ c, argE m c = v) (hw : ∀ c, argW m c = Layout.block ⟨3, ![2, 256, 512]⟩ ⟨3, ![16, 256, 512]⟩ 0 8 c w)
    (c : Dev nD) (t f : Fin 512) :
    result (col m c) (gathered m) (ix2 t f)
      = if h : Kept (fun s => v (ix2 s 0)) t then ∑ d : Fin 256, x (ix2 t d) * w (ix3 ⟨(v (ix2 t 0)).toNat, h.1⟩ d f) else (0 : EReal) := by
  have hc : ∀ c, colIdx (col m c) = fun s => v (ix2 s 0) := fun c => funext fun s => by rw [colIdx, col_at, hv]
  have hr : ∀ c, rowIdx (row m c) = fun s => v (ix2 s 0) := fun c => funext fun s => by rw [rowIdx, row_at, hv]
  rw [result_at]
  by_cases h : Kept (fun s => v (ix2 s 0)) t
  · rw [dif_pos h, dif_pos (by rw [hc]; exact h)]
    have h16 : (v (ix2 t 0)).toNat < 16 := h.1
    have hlt : (v (ix2 t 0)).toNat / 2 < 8 := by omega
    have hat : At (rowIdx (row m ⟨_, hlt⟩)) ((⟨(v (ix2 t 0)).toNat / 2, hlt⟩ : Dev nD) : ℕ) t := by rw [hr]; exact ⟨h, rfl⟩
    rw [gathered_at m ⟨_, hlt⟩ ⟨slot (rowIdx (row m ⟨_, hlt⟩)) t, slot_lt _ t⟩ f (by simp only [hr, hc]; rfl), contrib_at _ _ _ _ _ _ hat]
    refine Finset.sum_congr rfl fun d _ => ?_
    rw [toks_at, wts_at, hx, hw]
    refine congrArg _ (block_at _ w _ d f ?_)
    show (v (ix2 t 0)).toNat = (v (ix2 t 0)).toNat / 2 * 2 + (rowIdx (row m ⟨_, hlt⟩) t).toNat % 2
    rw [congrFun (hr ⟨_, hlt⟩) t]
    omega
  · rw [dif_neg h, dif_neg (by rw [hc]; exact h)]

end Cert.Exchange
-- ==== Proof.RefSide.lean ====
module

public import proofs.«01_k».proof.Proof.Gen.ReferenceIdeal.Run
public import proofs.«01_k».proof.Proof.Words
import Idealize.ShloMosaic.Lib.Pointwise
import Idealize.ShloMosaic.Lib.IndicatorCount

/-! # The value of the reference

Each row of it is the token's product with its expert's matrix, where the token is kept. -/

@[expose] public section

set_option maxRecDepth 16384

noncomputable section

namespace Cert.Exchange

open Idealize.ShloMosaic Cert.ReferenceIdeal Cert.ReferenceIdeal.Gen

/-- How many earlier tokens chose the same expert. -/
def refCount (v : IVec S512x1 32) : IVec S512 32 :=
  Host.reduce IntOp.addi (extui 32 (andi (cmpi .slt (broadcastInDim S512x512 ![0, 1] bcast_S1x512_S512x512_0_1 (broadcastInDim S1x512 ![1] bcast_S512_S1x512_1 (iotaInDim S512 32 0))) (broadcastInDim S512x512 ![0, 1] bcast_S512x1_S512x512_0_1 (broadcastInDim S512x1 ![0] bcast_S512_S512x1_0 (iotaInDim S512 32 0)))) (cmpi .eq (broadcastInDim S512x512 ![0, 1] bcast_S1x512_S512x512_0_1 (broadcastInDim S1x512 ![1] bcast_S512_S1x512_1 (shapeCast _ v shapeCasts_S512x1_S512))) (broadcastInDim S512x512 ![0, 1] bcast_S512x1_S512x512_0_1 (broadcastInDim S512x1 ![0] bcast_S512_S512x1_0 (shapeCast _ v shapeCasts_S512x1_S512))))) natLt_1_32) (constantI S_ 32 0#32) reducesTo_S512x512_S512_d1 h_S_

theorem refCount_at (v : IVec S512x1 32) (t : Fin 512) : refCount v (ix1 t) = BitVec.ofNat 32 (below (fun s => v (ix2 s 0) = v (ix2 t 0)) t) := by
  unfold refCount
  pointwise []
  rw [IndicatorCount.fold_addi_setWidth_eq_card]
  simp only [andi_eq_one, eq_bit, slt_bit]
  rfl

/-- The reference's comparison with the capacity. -/
theorem small_lt (n : ℕ) (h : n ≤ 512) : IntOp.cmpi .slt (BitVec.ofNat 32 n) 25#32 = 1#1 ↔ n < 25 := by
  rw [WordCmp.cmpi_slt_eq, WordCmp.ofBool_decide_eq_one_iff, BitVec.toInt_ofNat', Int.bmod_eq_of_le (by omega) (by omega)]
  exact Int.ofNat_lt

/-- The value of the reference from the tokens `x`, the choices `v` and the weights `w`. -/
def refValue (x : FVec Ideal S512x256 .bf16) (v : IVec S512x1 32) (w : FVec Ideal S16x256x512 .bf16) : FVec Ideal S512x512 .f32 :=
  Host.reduceAdd (select (broadcastInDim S512x16x512 ![0, 1, 2] bcast_S512x16x1_S512x16x512_0_1_2 (broadcastInDim S512x16x1 ![0, 1] bcast_S512x16_S512x16x1_0_1 (andi (cmpi .eq (broadcastInDim S512x16 ![0, 1] bcast_S512x1_S512x16_0_1 v) (broadcastInDim S512x16 ![0, 1] bcast_S1x16_S512x16_0_1 (broadcastInDim S1x16 ![1] bcast_S16_S1x16_1 (iotaInDim S16 32 0)))) (broadcastInDim S512x16 ![0, 1] bcast_S512x1_S512x16_0_1 (broadcastInDim S512x1 ![0] bcast_S512_S512x1_0 (cmpi .slt (refCount v) (broadcastInDim S512 ![] bcast_S_S512 (constantI S_ 32 25#32)))))))) (Host.dotGeneral dot_S512x256_S16x256x512_S512x16x512_1_1_0_02_n_n none (extf .f32 x bitsLt_bf16_f32) (extf .f32 w bitsLt_bf16_f32)) (broadcastInDim S512x16x512 ![] bcast_S_S512x16x512 (id (constant S_ .f32 0x00000000#32)))) (constant S_ .f32 0x00000000#32) reducesTo_S512x16x512_S512x512_d1 h_S_

theorem refValue_at (x : FVec Ideal S512x256 .bf16) (v : IVec S512x1 32) (w : FVec Ideal S16x256x512 .bf16) (t f : Fin 512) :
    refValue x v w (ix2 t f) = if h : Kept (fun s => v (ix2 s 0)) t then ∑ d : Fin 256, x (ix2 t d) * w (ix3 ⟨(v (ix2 t 0)).toNat, h.1⟩ d f) else 0 := by
  unfold refValue
  pointwise []
  have hle : below (fun s => v (ix2 s 0) = v (ix2 t 0)) t ≤ 512 := (Finset.card_le_univ _).trans (Fintype.card_fin _).le
  have hb : ∀ e : Fin 16, (IntOp.andi (IntOp.cmpi .eq (v (ix2 t 0)) (BitVec.ofNat 32 ↑e)) (IntOp.cmpi .slt (refCount v (ix1 t)) 25#32) = 1#1)
      ↔ (v (ix2 t 0)).toNat = e ∧ Kept (fun s => v (ix2 s 0)) t := by
    intro e
    rw [andi_eq_one, eq_bit, refCount_at, small_lt _ hle, eq_comm, ofNat_eq_iff (by omega)]
    exact and_congr_right fun h => ⟨fun g => ⟨by show (v (ix2 t 0)).toNat < 16; omega, g⟩, fun g => g.2⟩
  have hz : (id (constant (F := Ideal) S_ FTy.f32 0#32) ix0 : EReal) = 0 := by
    show constant (F := Ideal) S_ FTy.f32 0#32 ix0 = _
    pointwise []
  have hs : ∀ (b : BitVec 1) (y z : EReal), Scalar.select b y z = if b = 1#1 then y else z := fun b y z => by
    rcases BitVec.eq_zero_or_eq_one b with rfl | rfl <;> rfl
  simp only [hz, hs, hb]
  by_cases h : Kept (fun s => v (ix2 s 0)) t
  · rw [dif_pos h]
    exact sum_only _ (fun e : Fin 16 => ∑ d : Fin 256, x (ix2 t d) * w (ix3 e d f)) (a := ⟨(v (ix2 t 0)).toNat, h.1⟩) ⟨rfl, h⟩ (fun b hb => Fin.ext hb.1.symm)
  · rw [dif_neg h]
    exact sum_none _ (fun e : Fin 16 => ∑ d : Fin 256, x (ix2 t d) * w (ix3 e d f)) (fun b hb => h hb.2)

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.RefSide
public import Idealize.ShloMosaic.Lib.Quiescent
public import Idealize.ShloMosaic.Lib.Tactic
public import Idealize.ShloMosaic.Adequacy
public import Idealize.ShloMosaic.Init

@[expose] public section

noncomputable section

namespace Cert.Proof

open Idealize.ShloMosaic Idealize.SL.Sem Cert.Kernel

/-- The four arguments read off what a run leaves. -/
theorem Exchange.Left.args {F : FTy → Type} [FloatOps F] {m : (ℓ : Loc KernelIdeal.nD KernelIdeal.τ KernelIdeal.sig) → Buf (Elt F) ℓ}
    {c : Dev KernelIdeal.nD} {mem : (ℓ : Loc KernelIdeal.nD KernelIdeal.τ KernelIdeal.sig) → Buf (Elt F) ℓ} (h : Cert.Exchange.Left m c mem) :
    mem ((c.tc : Thread KernelIdeal.nD KernelIdeal.τ).loc KernelIdeal.main_arg0) = m ((c.tc : Thread KernelIdeal.nD KernelIdeal.τ).loc KernelIdeal.main_arg0)
    ∧ mem ((c.tc : Thread KernelIdeal.nD KernelIdeal.τ).loc KernelIdeal.main_arg1) = m ((c.tc : Thread KernelIdeal.nD KernelIdeal.τ).loc KernelIdeal.main_arg1)
    ∧ mem ((c.tc : Thread KernelIdeal.nD KernelIdeal.τ).loc KernelIdeal.main_arg2) = m ((c.tc : Thread KernelIdeal.nD KernelIdeal.τ).loc KernelIdeal.main_arg2)
    ∧ mem ((c.tc : Thread KernelIdeal.nD KernelIdeal.τ).loc KernelIdeal.main_arg3) = m ((c.tc : Thread KernelIdeal.nD KernelIdeal.τ).loc KernelIdeal.main_arg3) :=
  ⟨h.1, h.2.1, h.2.2.1, h.2.2.2.1⟩

/-- The kernel's body table and its idealization's are one. -/
theorem defs_same : Cert.Kernel.defs (F := Bits) = Cert.KernelIdeal.defs (F := Bits) := by sl_kernel_rfl

/-- The kernel's program and its idealization's are one. -/
theorem main_same : Cert.Kernel.main (F := Bits) = Cert.KernelIdeal.main (F := Bits) := by sl_kernel_rfl

/-- Every execution of the kernel ends, its arguments unchanged, every semaphore at zero. -/
theorem frame_kernel : Cert.quiescent_Kernel := by
  intro m ρ _
  rw [defs_same, main_same]
  exact (θ_run Cert.KernelIdeal.defs _ _).mono (fun _ h => ⟨fun c => Exchange.Left.args (h.1 c), h.2⟩) (Cert.Exchange.run_main (F := Bits) m ρ)

/-- The same of its idealization, the same text read over the extended reals. -/
theorem frame_ideal : Cert.quiescent_KernelIdeal := by
  intro m ρ _
  exact (θ_run Cert.KernelIdeal.defs _ _).mono (fun _ h => ⟨fun c => Exchange.Left.args (h.1 c), h.2⟩) (Cert.Exchange.run_main (F := Ideal) m ρ)

/-- Every execution of the reference ends, its arguments unchanged, every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

open Cert.Exchange in
/-- Where both hold the same arrays, the kernel's result on every device is the value of the reference. -/
theorem result_eq (m : (ℓ : Loc KernelIdeal.nD KernelIdeal.τ KernelIdeal.sig) → Buf (Elt Ideal) ℓ) {x : FVec Ideal KernelIdeal.S512x256 .bf16} {v : IVec KernelIdeal.S512x1 32}
    {w : FVec Ideal (⟨3, ![16, 256, 512]⟩ : Shape) .bf16} (hx : ∀ c, argX m c = x) (hv : ∀ c, argE m c = v)
    (hw : ∀ c, argW m c = Layout.block ⟨3, ![2, 256, 512]⟩ ⟨3, ![16, 256, 512]⟩ 0 8 c w) (c : Dev KernelIdeal.nD) :
    result (col m c) (gathered m) = refValue x v w := by
  funext j
  obtain ⟨t, f, rfl⟩ : ∃ (t f : Fin 512), j = ix2 t f := ⟨j 0, j 1, funext fun a => by match a with | ⟨0, _⟩ => rfl | ⟨1, _⟩ => rfl⟩
  exact (kernel_at m hx hv hw c t f).trans (refValue_at x v w t f).symm

/-- The kernel computes what the reference does, over the extended reals. -/
theorem value : Cert.algebraic_KernelIdeal_ReferenceIdeal := fun m g m' g' _ hagree =>
  ⟨Cert.Exchange.refValue _ _ _,
    (θ_run Cert.KernelIdeal.defs _ _).mono
      (fun _ h c => ⟨(h.1 c).2.2.2.2.trans (result_eq m (fun c => (hagree c).1) (fun c => (hagree c).2.2.1) (fun c => (hagree c).2.2.2) c), Exchange.Left.args (h.1 c)⟩)
      (Cert.Exchange.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
